-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_backbone [hPre_backbone : Cert.Pre_backbone.Facts] (m : (ℓ : Loc Cert.KernelIdeal.nD Cert.KernelIdeal.τ Cert.KernelIdeal.sig) → Buf (Elt Ideal) ℓ) : Prop :=
  ∀ c : Dev Cert.KernelIdeal.nD,
    (Cert.Pre_backbone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_backbone [hPre_backbone : Cert.Pre_backbone.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_backbone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_backbone [hKernelIdeal : Cert.KernelIdeal.Facts] [hPre_backbone : Cert.Pre_backbone.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_backbone m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_backbone [hReferenceIdeal : Cert.ReferenceIdeal.Facts] [hPre_backbone : Cert.Pre_backbone.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_backbone m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "d_self" .f32 0x38D1B717#32 ((Real.sqrt (11258999 / 1125899906842624) : ℝ) : EReal)

def algebraic_KernelIdeal_ReferenceIdeal_pre_backbone [hKernelIdeal : Cert.KernelIdeal.Facts] [hReferenceIdeal : Cert.ReferenceIdeal.Facts] [hPre_backbone : Cert.Pre_backbone.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_backbone m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_backbone : Cert.Pre_backbone.Facts),
    quiescent_Kernel (hKernel := hKernel)
    ∧ quiescent_KernelIdeal (hKernelIdeal := hKernelIdeal)
    ∧ quiescent_KernelIdeal_pre_backbone (hKernelIdeal := hKernelIdeal) (hPre_backbone := hPre_backbone)
    ∧ quiescent_ReferenceIdeal (hReferenceIdeal := hReferenceIdeal)
    ∧ quiescent_ReferenceIdeal_pre_backbone (hReferenceIdeal := hReferenceIdeal) (hPre_backbone := hPre_backbone)
    ∧ preserves_Kernel_KernelIdeal
    ∧ algebraic_KernelIdeal_ReferenceIdeal_pre_backbone (hKernelIdeal := hKernelIdeal) (hReferenceIdeal := hReferenceIdeal) (hPre_backbone := hPre_backbone)
-- ==== Pre_backbone.lean ====
abbrev S4x1024x3 : Shape := ⟨3, ![4, 1024, 3]⟩
abbrev S4 : Shape := ⟨1, ![4]⟩
abbrev S1024x1024 : Shape := ⟨2, ![1024, 1024]⟩
abbrev S32x32 : Shape := ⟨2, ![32, 32]⟩
abbrev S32 : Shape := ⟨1, ![32]⟩
abbrev S35x64 : Shape := ⟨2, ![35, 64]⟩
abbrev S64 : Shape := ⟨1, ![64]⟩
abbrev S2x64x64 : Shape := ⟨3, ![2, 64, 64]⟩
abbrev S2x4 : Shape := ⟨2, ![2, 4]⟩
abbrev S64x3 : Shape := ⟨2, ![64, 3]⟩
abbrev S3 : Shape := ⟨1, ![3]⟩
abbrev S_ : Shape := ⟨0, ![]⟩
abbrev S1x64x64 : Shape := ⟨3, ![1, 64, 64]⟩
abbrev S64x64 : Shape := ⟨2, ![64, 64]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  slices_S2x64x64_S1x64x64_0_0_0 : S2x64x64.Slices ![0, 0, 0] S1x64x64
  shapeCasts_S1x64x64_S64x64 : S1x64x64.ShapeCasts S64x64
  bcast_S_S4x1024x3 : S_.BroadcastsInDim S4x1024x3 (![] : Fin 0 → Fin S4x1024x3.rank)
  reducesTo_S4x1024x3_S_d0_1_2 : S4x1024x3.ReducesTo [0, 1, 2] S_
  bcast_S_S4 : S_.BroadcastsInDim S4 (![] : Fin 0 → Fin S4.rank)
  reducesTo_S4_S_d0 : S4.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S64x64 : S_.BroadcastsInDim S64x64 (![] : Fin 0 → Fin S64x64.rank)
  reducesTo_S64x64_S_d0_1 : S64x64.ReducesTo [0, 1] S_
  bcast_S_S2x4 : S_.BroadcastsInDim S2x4 (![] : Fin 0 → Fin S2x4.rank)
  reducesTo_S2x4_S_d0_1 : S2x4.ReducesTo [0, 1] S_

variable [Facts]

def fn_part6 {F : FTy → Type} [FloatOps F] (main_v102 : IVec S_ 1) (main_v105 : IVec S2x4 1) : IVec S_ 1 :=
  let main_c_36 : IVec S_ 1 := constantI S_ 1 1#1
  let main_v106 : IVec S_ 1 := (fun x v => Host.reduce IntOp.andi x v reducesTo_S2x4_S_d0_1 h_S_) main_v105 main_c_36
  let main_v107 : IVec S_ 1 := andi main_v102 main_v106
  main_v107

def fn_part5 {F : FTy → Type} [FloatOps F] (main_arg14 : FVec F S2x4 .f32) (main_v40 : FVec F S64x64 .f32) (main_v42 : FVec F S64x64 .f32) (main_v87 : IVec S_ 1) (main_v88 : FVec F S2x64x64 .f32) : IVec S_ 1 :=
  let main_cst_29 : FVec F S_ .f32 := constant S_ .f32 0x7F800000#32
  let main_v89 : FVec F S2x64x64 .f32 := broadcastInDim S2x64x64 ![] bcast_S_S2x64x64 main_cst_29
  let main_v90 : IVec S2x64x64 1 := cmpf .olt main_v88 main_v89
  let main_c_30 : IVec S_ 1 := constantI S_ 1 1#1
  let main_v91 : IVec S_ 1 := (fun x v => Host.reduce IntOp.andi x v reducesTo_S2x64x64_S_d0_1_2 h_S_) main_v90 main_c_30
  let main_v92 : IVec S_ 1 := andi main_v87 main_v91
  let main_v93 : FVec F S64x64 .f32 := Host.absf main_v40
  let main_cst_31 : FVec F S_ .f32 := constant S_ .f32 0x7F800000#32
  let main_v94 : FVec F S64x64 .f32 := broadcastInDim S64x64 ![] bcast_S_S64x64 main_cst_31
  let main_v95 : IVec S64x64 1 := cmpf .olt main_v93 main_v94
  let main_c_32 : IVec S_ 1 := constantI S_ 1 1#1
  let main_v96 : IVec S_ 1 := (fun x v => Host.reduce IntOp.andi x v reducesTo_S64x64_S_d0_1 h_S_) main_v95 main_c_32
  let main_v97 : IVec S_ 1 := andi main_v92 main_v96
  let main_v98 : FVec F S64x64 .f32 := Host.absf main_v42
  let main_cst_33 : FVec F S_ .f32 := constant S_ .f32 0x7F800000#32
  let main_v99 : FVec F S64x64 .f32 := broadcastInDim S64x64 ![] bcast_S_S64x64 main_cst_33
  let main_v100 : IVec S64x64 1 := cmpf .olt main_v98 main_v99
  let main_c_34 : IVec S_ 1 := constantI S_ 1 1#1
  let main_v101 : IVec S_ 1 := (fun x v => Host.reduce IntOp.andi x v reducesTo_S64x64_S_d0_1 h_S_) main_v100 main_c_34
  let main_v102 : IVec S_ 1 := andi main_v97 main_v101
  let main_v103 : FVec F S2x4 .f32 := Host.absf main_arg14
  let main_cst_35 : FVec F S_ .f32 := constant S_ .f32 0x7F800000#32
  let main_v104 : FVec F S2x4 .f32 := broadcastInDim S2x4 ![] bcast_S_S2x4 main_cst_35
  let main_v105 : IVec S2x4 1 := cmpf .olt main_v103 main_v104
  fn_part6 (F := F) main_v102 main_v105

def fn_part4 {F : FTy → Type} [FloatOps F] (main_arg8 : FVec F S35x64 .f32) (main_arg9 : FVec F S64 .f32) (main_arg10 : FVec F S2x64x64 .f32) (main_arg11 : FVec F S2x64x64 .f32) (main_arg14 : FVec F S2x4 .f32) (main_v40 : FVec F S64x64 .f32) (main_v42 : FVec F S64x64 .f32) (main_v67 : IVec S_ 1) (main_v70 : IVec S32 1) (main_c_22 : IVec S_ 1) : IVec S_ 1 :=
  let main_v71 : IVec S_ 1 := (fun x v => Host.reduce IntOp.andi x v reducesTo_S32_S_d0 h_S_) main_v70 main_c_22
  let main_v72 : IVec S_ 1 := andi main_v67 main_v71
  let main_v73 : FVec F S35x64 .f32 := Host.absf main_arg8
  let main_cst_23 : FVec F S_ .f32 := constant S_ .f32 0x7F800000#32
  let main_v74 : FVec F S35x64 .f32 := broadcastInDim S35x64 ![] bcast_S_S35x64 main_cst_23
  let main_v75 : IVec S35x64 1 := cmpf .olt main_v73 main_v74
  let main_c_24 : IVec S_ 1 := constantI S_ 1 1#1
  let main_v76 : IVec S_ 1 := (fun x v => Host.reduce IntOp.andi x v reducesTo_S35x64_S_d0_1 h_S_) main_v75 main_c_24
  let main_v77 : IVec S_ 1 := andi main_v72 main_v76
  let main_v78 : FVec F S64 .f32 := Host.absf main_arg9
  let main_cst_25 : FVec F S_ .f32 := constant S_ .f32 0x7F800000#32
  let main_v79 : FVec F S64 .f32 := broadcastInDim S64 ![] bcast_S_S64 main_cst_25
  let main_v80 : IVec S64 1 := cmpf .olt main_v78 main_v79
  let main_c_26 : IVec S_ 1 := constantI S_ 1 1#1
  let main_v81 : IVec S_ 1 := (fun x v => Host.reduce IntOp.andi x v reducesTo_S64_S_d0 h_S_) main_v80 main_c_26
  let main_v82 : IVec S_ 1 := andi main_v77 main_v81
  let main_v83 : FVec F S2x64x64 .f32 := Host.absf main_arg10
  let main_cst_27 : FVec F S_ .f32 := constant S_ .f32 0x7F800000#32
  let main_v84 : FVec F S2x64x64 .f32 := broadcastInDim S2x64x64 ![] bcast_S_S2x64x64 main_cst_27
  let main_v85 : IVec S2x64x64 1 := cmpf .olt main_v83 main_v84
  let main_c_28 : IVec S_ 1 := constantI S_ 1 1#1
  let main_v86 : IVec S_ 1 := (fun x v => Host.reduce IntOp.andi x v reducesTo_S2x64x64_S_d0_1_2 h_S_) main_v85 main_c_28
  let main_v87 : IVec S_ 1 := andi main_v82 main_v86
  let main_v88 : FVec F S2x64x64 .f32 := Host.absf main_arg11
  fn_part5 (F := F) main_arg14 main_v40 main_v42 main_v87 main_v88

def fn_part3 {F : FTy → Type} [FloatOps F] (main_arg5 : FVec F S32 .f32) (main_arg6 : FVec F S32x32 .f32) (main_arg7 : FVec F S32 .f32) (main_arg8 : FVec F S35x64 .f32) (main_arg9 : FVec F S64 .f32) (main_arg10 : FVec F S2x64x64 .f32) (main_arg11 : FVec F S2x64x64 .f32) (main_arg14 : FVec F S2x4 .f32) (main_v40 : FVec F S64x64 .f32) (main_v42 : FVec F S64x64 .f32) (main_v52 : IVec S_ 1) (main_v53 : FVec F S32x32 .f32) (main_cst_15 : FVec F S_ .f32) : IVec S_ 1 :=
  let main_v54 : FVec F S32x32 .f32 := broadcastInDim S32x32 ![] bcast_S_S32x32 main_cst_15
  let main_v55 : IVec S32x32 1 := cmpf .olt main_v53 main_v54
  let main_c_16 : IVec S_ 1 := constantI S_ 1 1#1
  let main_v56 : IVec S_ 1 := (fun x v => Host.reduce IntOp.andi x v reducesTo_S32x32_S_d0_1 h_S_) main_v55 main_c_16
  let main_v57 : IVec S_ 1 := andi main_v52 main_v56
  let main_v58 : FVec F S32 .f32 := Host.absf main_arg5
  let main_cst_17 : FVec F S_ .f32 := constant S_ .f32 0x7F800000#32
  let main_v59 : FVec F S32 .f32 := broadcastInDim S32 ![] bcast_S_S32 main_cst_17
  let main_v60 : IVec S32 1 := cmpf .olt main_v58 main_v59
  let main_c_18 : IVec S_ 1 := constantI S_ 1 1#1
  let main_v61 : IVec S_ 1 := (fun x v => Host.reduce IntOp.andi x v reducesTo_S32_S_d0 h_S_) main_v60 main_c_18
  let main_v62 : IVec S_ 1 := andi main_v57 main_v61
  let main_v63 : FVec F S32x32 .f32 := Host.absf main_arg6
  let main_cst_19 : FVec F S_ .f32 := constant S_ .f32 0x7F800000#32
  let main_v64 : FVec F S32x32 .f32 := broadcastInDim S32x32 ![] bcast_S_S32x32 main_cst_19
  let main_v65 : IVec S32x32 1 := cmpf .olt main_v63 main_v64
  let main_c_20 : IVec S_ 1 := constantI S_ 1 1#1
  let main_v66 : IVec S_ 1 := (fun x v => Host.reduce IntOp.andi x v reducesTo_S32x32_S_d0_1 h_S_) main_v65 main_c_20
  let main_v67 : IVec S_ 1 := andi main_v62 main_v66
  let main_v68 : FVec F S32 .f32 := Host.absf main_arg7
  let main_cst_21 : FVec F S_ .f32 := constant S_ .f32 0x7F800000#32
  let main_v69 : FVec F S32 .f32 := broadcastInDim S32 ![] bcast_S_S32 main_cst_21
  let main_v70 : IVec S32 1 := cmpf .olt main_v68 main_v69
  let main_c_22 : IVec S_ 1 := constantI S_ 1 1#1
  fn_part4 (F := F) main_arg8 main_arg9 main_arg10 main_arg11 main_arg14 main_v40 main_v42 main_v67 main_v70 main_c_22

def fn_part2 {F : FTy → Type} [FloatOps F] (main_arg0 : FVec F S4x1024x3 .f32) (main_arg2 : FVec F S4 .f32) (main_arg3 : IVec S1024x1024 1) (main_arg4 : FVec F S32x32 .f32) (main_arg5 : FVec F S32 .f32) (main_arg6 : FVec F S32x32 .f32) (main_arg7 : FVec F S32 .f32) (main_arg8 : FVec F S35x64 .f32) (main_arg9 : FVec F S64 .f32) (main_arg10 : FVec F S2x64x64 .f32) (main_arg11 : FVec F S2x64x64 .f32) (main_arg12 : FVec F S2x64x64 .f32) (main_arg13 : FVec F S2x64x64 .f32) (main_arg14 : FVec F S2x4 .f32) (main_v18 : IVec S1024x1024 1) (main_v35 : IVec S1024x1024 1) : IVec S_ 1 :=
  let main_v36 : IVec S1024x1024 1 := ori main_v18 main_v35
  let main_v37 : IVec S1024x1024 1 := cmpi .eq main_arg3 main_v36
  let main_c_11 : IVec S_ 1 := constantI S_ 1 1#1
  let main_v38 : IVec S_ 1 := (fun x v => Host.reduce IntOp.andi x v reducesTo_S1024x1024_S_d0_1 h_S_) main_v37 main_c_11
  let main_v39 : FVec F S1x64x64 .f32 := (extractStridedSlice S1x64x64 ![0, 0, 0] · slices_S2x64x64_S1x64x64_0_0_0) main_arg12
  let main_v40 : FVec F S64x64 .f32 := shapeCast S64x64 main_v39 shapeCasts_S1x64x64_S64x64
  let main_v41 : FVec F S1x64x64 .f32 := (extractStridedSlice S1x64x64 ![0, 0, 0] · slices_S2x64x64_S1x64x64_0_0_0) main_arg13
  let main_v42 : FVec F S64x64 .f32 := shapeCast S64x64 main_v41 shapeCasts_S1x64x64_S64x64
  let main_v43 : FVec F S4x1024x3 .f32 := Host.absf main_arg0
  let main_cst : FVec F S_ .f32 := constant S_ .f32 0x7F800000#32
  let main_v44 : FVec F S4x1024x3 .f32 := broadcastInDim S4x1024x3 ![] bcast_S_S4x1024x3 main_cst
  let main_v45 : IVec S4x1024x3 1 := cmpf .olt main_v43 main_v44
  let main_c_12 : IVec S_ 1 := constantI S_ 1 1#1
  let main_v46 : IVec S_ 1 := (fun x v => Host.reduce IntOp.andi x v reducesTo_S4x1024x3_S_d0_1_2 h_S_) main_v45 main_c_12
  let main_v47 : IVec S_ 1 := andi main_v38 main_v46
  let main_v48 : FVec F S4 .f32 := Host.absf main_arg2
  let main_cst_13 : FVec F S_ .f32 := constant S_ .f32 0x7F800000#32
  let main_v49 : FVec F S4 .f32 := broadcastInDim S4 ![] bcast_S_S4 main_cst_13
  let main_v50 : IVec S4 1 := cmpf .olt main_v48 main_v49
  let main_c_14 : IVec S_ 1 := constantI S_ 1 1#1
  let main_v51 : IVec S_ 1 := (fun x v => Host.reduce IntOp.andi x v reducesTo_S4_S_d0 h_S_) main_v50 main_c_14
  let main_v52 : IVec S_ 1 := andi main_v47 main_v51
  let main_v53 : FVec F S32x32 .f32 := Host.absf main_arg4
  let main_cst_15 : FVec F S_ .f32 := constant S_ .f32 0x7F800000#32
  fn_part3 (F := F) main_arg5 main_arg6 main_arg7 main_arg8 main_arg9 main_arg10 main_arg11 main_arg14 main_v40 main_v42 main_v52 main_v53 main_cst_15

def fn_part1 {F : FTy → Type} [FloatOps F] (main_arg0 : FVec F S4x1024x3 .f32) (main_arg2 : FVec F S4 .f32) (main_arg3 : IVec S1024x1024 1) (main_arg4 : FVec F S32x32 .f32) (main_arg5 : FVec F S32 .f32) (main_arg6 : FVec F S32x32 .f32) (main_arg7 : FVec F S32 .f32) (main_arg8 : FVec F S35x64 .f32) (main_arg9 : FVec F S64 .f32) (main_arg10 : FVec F S2x64x64 .f32) (main_arg11 : FVec F S2x64x64 .f32) (main_arg12 : FVec F S2x64x64 .f32) (main_arg13 : FVec F S2x64x64 .f32) (main_arg14 : FVec F S2x4 .f32) (main_v0 : IVec S1024x1024 32) (main_v1 : IVec S1024x1024 32) (main_v9 : IVec S1024x1024 1) (main_v17 : IVec S1024x1024 1) : IVec S_ 1 :=
  let main_v18 : IVec S1024x1024 1 := ori main_v9 main_v17
  let main_c_5 : IVec S_ 32 := constantI S_ 32 1#32
  let main_v19 : IVec S1024x1024 32 := broadcastInDim S1024x1024 ![] bcast_S_S1024x1024 main_c_5
  let main_v20 : IVec S1024x1024 32 := addi main_v1 main_v19
  let main_v21 : IVec S1024x1024 1 := cmpi .eq main_v0 main_v20
  let main_c_6 : IVec S_ 32 := constantI S_ 32 3#32
  let main_v22 : IVec S1024x1024 32 := broadcastInDim S1024x1024 ![] bcast_S_S1024x1024 main_c_6
  let main_v23 : IVec S1024x1024 32 := andi main_v1 main_v22
  let main_c_7 : IVec S_ 32 := constantI S_ 32 3#32
  let main_v24 : IVec S1024x1024 32 := broadcastInDim S1024x1024 ![] bcast_S_S1024x1024 main_c_7
  let main_v25 : IVec S1024x1024 1 := cmpi .ne main_v23 main_v24
  let main_v26 : IVec S1024x1024 1 := andi main_v21 main_v25
  let main_c_8 : IVec S_ 32 := constantI S_ 32 2#32
  let main_v27 : IVec S1024x1024 32 := broadcastInDim S1024x1024 ![] bcast_S_S1024x1024 main_c_8
  let main_v28 : IVec S1024x1024 32 := addi main_v1 main_v27
  let main_v29 : IVec S1024x1024 1 := cmpi .eq main_v0 main_v28
  let main_c_9 : IVec S_ 32 := constantI S_ 32 3#32
  let main_v30 : IVec S1024x1024 32 := broadcastInDim S1024x1024 ![] bcast_S_S1024x1024 main_c_9
  let main_v31 : IVec S1024x1024 32 := andi main_v1 main_v30
  let main_c_10 : IVec S_ 32 := constantI S_ 32 2#32
  let main_v32 : IVec S1024x1024 32 := broadcastInDim S1024x1024 ![] bcast_S_S1024x1024 main_c_10
  let main_v33 : IVec S1024x1024 1 := cmpi .eq main_v31 main_v32
  let main_v34 : IVec S1024x1024 1 := andi main_v29 main_v33
  let main_v35 : IVec S1024x1024 1 := ori main_v26 main_v34
  fn_part2 (F := F) main_arg0 main_arg2 main_arg3 main_arg4 main_arg5 main_arg6 main_arg7 main_arg8 main_arg9 main_arg10 main_arg11 main_arg12 main_arg13 main_arg14 main_v18 main_v35

def fn {F : FTy → Type} [FloatOps F] (main_arg0 : FVec F S4x1024x3 .f32) (main_arg1 : FVec F S4x1024x3 .f32) (main_arg2 : FVec F S4 .f32) (main_arg3 : IVec S1024x1024 1) (main_arg4 : FVec F S32x32 .f32) (main_arg5 : FVec F S32 .f32) (main_arg6 : FVec F S32x32 .f32) (main_arg7 : FVec F S32 .f32) (main_arg8 : FVec F S35x64 .f32) (main_arg9 : FVec F S64 .f32) (main_arg10 : FVec F S2x64x64 .f32) (main_arg11 : FVec F S2x64x64 .f32) (main_arg12 : FVec F S2x64x64 .f32) (main_arg13 : FVec F S2x64x64 .f32) (main_arg14 : FVec F S2x4 .f32) (main_arg15 : FVec F S64x3 .f32) (main_arg16 : FVec F S3 .f32) : IVec S_ 1 :=
  let main_v0 : IVec S1024x1024 32 := iotaInDim S1024x1024 32 0
  let main_v1 : IVec S1024x1024 32 := iotaInDim S1024x1024 32 1
  let main_c : IVec S_ 32 := constantI S_ 32 1#32
  let main_v2 : IVec S1024x1024 32 := broadcastInDim S1024x1024 ![] bcast_S_S1024x1024 main_c
  let main_v3 : IVec S1024x1024 32 := addi main_v0 main_v2
  let main_v4 : IVec S1024x1024 1 := cmpi .eq main_v1 main_v3
  let main_c_0 : IVec S_ 32 := constantI S_ 32 3#32
  let main_v5 : IVec S1024x1024 32 := broadcastInDim S1024x1024 ![] bcast_S_S1024x1024 main_c_0
  let main_v6 : IVec S1024x1024 32 := andi main_v0 main_v5
  let main_c_1 : IVec S_ 32 := constantI S_ 32 3#32
  let main_v7 : IVec S1024x1024 32 := broadcastInDim S1024x1024 ![] bcast_S_S1024x1024 main_c_1
  let main_v8 : IVec S1024x1024 1 := cmpi .ne main_v6 main_v7
  let main_v9 : IVec S1024x1024 1 := andi main_v4 main_v8
  let main_c_2 : IVec S_ 32 := constantI S_ 32 2#32
  let main_v10 : IVec S1024x1024 32 := broadcastInDim S1024x1024 ![] bcast_S_S1024x1024 main_c_2
  let main_v11 : IVec S1024x1024 32 := addi main_v0 main_v10
  let main_v12 : IVec S1024x1024 1 := cmpi .eq main_v1 main_v11
  let main_c_3 : IVec S_ 32 := constantI S_ 32 3#32
  let main_v13 : IVec S1024x1024 32 := broadcastInDim S1024x1024 ![] bcast_S_S1024x1024 main_c_3
  let main_v14 : IVec S1024x1024 32 := andi main_v0 main_v13
  let main_c_4 : IVec S_ 32 := constantI S_ 32 2#32
  let main_v15 : IVec S1024x1024 32 := broadcastInDim S1024x1024 ![] bcast_S_S1024x1024 main_c_4
  let main_v16 : IVec S1024x1024 1 := cmpi .eq main_v14 main_v15
  let main_v17 : IVec S1024x1024 1 := andi main_v12 main_v16
  fn_part1 (F := F) main_arg0 main_arg2 main_arg3 main_arg4 main_arg5 main_arg6 main_arg7 main_arg8 main_arg9 main_arg10 main_arg11 main_arg12 main_arg13 main_arg14 main_v0 main_v1 main_v9 main_v17
-- ==== Kernel.lean ====
abbrev S4x1024x3 : Shape := ⟨3, ![4, 1024, 3]⟩
abbrev S4 : Shape := ⟨1, ![4]⟩
abbrev S1024x1024 : Shape := ⟨2, ![1024, 1024]⟩
abbrev S32x32 : Shape := ⟨2, ![32, 32]⟩
abbrev S32 : Shape := ⟨1, ![32]⟩
abbrev S35x64 : Shape := ⟨2, ![35, 64]⟩
abbrev S64 : Shape := ⟨1, ![64]⟩
abbrev S2x64x64 : Shape := ⟨3, ![2, 64, 64]⟩
abbrev S2x4 : Shape := ⟨2, ![2, 4]⟩
abbrev S64x3 : Shape := ⟨2, ![64, 3]⟩
abbrev S3 : Shape := ⟨1, ![3]⟩
abbrev S1024x4x3 : Shape := ⟨3, ![1024, 4, 3]⟩
abbrev S1024x12 : Shape := ⟨2, ![1024, 12]⟩
abbrev S1x4 : Shape := ⟨2, ![1, 4]⟩
abbrev S1x32 : Shape := ⟨2, ![1, 32]⟩
abbrev S1x64 : Shape := ⟨2, ![1, 64]⟩
abbrev S1x3 : Shape := ⟨2, ![1, 3]⟩
abbrev S64x128 : Shape := ⟨2, ![64, 128]⟩
abbrev S1x128 : Shape := ⟨2, ![1, 128]⟩
abbrev S128x32 : Shape := ⟨2, ![128, 32]⟩
abbrev S128x128 : Shape := ⟨2, ![128, 128]⟩
abbrev S32x64 : Shape := ⟨2, ![32, 64]⟩
abbrev S128x64 : Shape := ⟨2, ![128, 64]⟩
abbrev S128x256 : Shape := ⟨2, ![128, 256]⟩
abbrev S1x256 : Shape := ⟨2, ![1, 256]⟩
abbrev S3x64 : Shape := ⟨2, ![3, 64]⟩
abbrev S12x64 : Shape := ⟨2, ![12, 64]⟩
abbrev S12x256 : Shape := ⟨2, ![12, 256]⟩
abbrev S1024x256 : Shape := ⟨2, ![1024, 256]⟩
abbrev S12x4 : Shape := ⟨2, ![12, 4]⟩
abbrev S1x12 : Shape := ⟨2, ![1, 12]⟩
abbrev S1023x12 : Shape := ⟨2, ![1023, 12]⟩
abbrev S1024x4 : Shape := ⟨2, ![1024, 4]⟩
abbrev S2x12 : Shape := ⟨2, ![2, 12]⟩
abbrev S1022x12 : Shape := ⟨2, ![1022, 12]⟩
abbrev S1022x4 : Shape := ⟨2, ![1022, 4]⟩
abbrev S1023x4 : Shape := ⟨2, ![1023, 4]⟩
abbrev S1024x1 : Shape := ⟨2, ![1024, 1]⟩
abbrev S256x16 : Shape := ⟨2, ![256, 16]⟩
abbrev S16x256 : Shape := ⟨2, ![16, 256]⟩
abbrev S4x16 : Shape := ⟨2, ![4, 16]⟩
abbrev S1024x16 : Shape := ⟨2, ![1024, 16]⟩
abbrev S256x256 : Shape := ⟨2, ![256, 256]⟩
abbrev S1x64x64 : Shape := ⟨3, ![1, 64, 64]⟩
abbrev S64x64 : Shape := ⟨2, ![64, 64]⟩
abbrev S256x64 : Shape := ⟨2, ![256, 64]⟩
abbrev S1x16 : Shape := ⟨2, ![1, 16]⟩
abbrev S2x256 : Shape := ⟨2, ![2, 256]⟩
abbrev S1022x256 : Shape := ⟨2, ![1022, 256]⟩
abbrev S1023x256 : Shape := ⟨2, ![1023, 256]⟩
abbrev S256x3 : Shape := ⟨2, ![256, 3]⟩
abbrev S256x12 : Shape := ⟨2, ![256, 12]⟩

abbrev nBuf : Space → Nat
  | .hbm => 27
  | .vmem => 16
  | .smem => 0
  | _ => 0

abbrev bufTy : (tb : Table) → Fin (tcTables nBuf tb) → BufTy
  | .hbm, ⟨0, _⟩ => ⟨S4x1024x3, .f32⟩
  | .hbm, ⟨1, _⟩ => ⟨S4x1024x3, .f32⟩
  | .hbm, ⟨2, _⟩ => ⟨S4, .f32⟩
  | .hbm, ⟨3, _⟩ => ⟨S1024x1024, .i1⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S35x64, .f32⟩
  | .hbm, ⟨9, _⟩ => ⟨S64, .f32⟩
  | .hbm, ⟨10, _⟩ => ⟨S2x64x64, .f32⟩
  | .hbm, ⟨11, _⟩ => ⟨S2x64x64, .f32⟩
  | .hbm, ⟨12, _⟩ => ⟨S2x64x64, .f32⟩
  | .hbm, ⟨13, _⟩ => ⟨S2x64x64, .f32⟩
  | .hbm, ⟨14, _⟩ => ⟨S2x4, .f32⟩
  | .hbm, ⟨15, _⟩ => ⟨S64x3, .f32⟩
  | .hbm, ⟨16, _⟩ => ⟨S3, .f32⟩
  | .hbm, ⟨17, _⟩ => ⟨S1024x4x3, .f32⟩
  | .hbm, ⟨18, _⟩ => ⟨S1024x12, .f32⟩
  | .hbm, ⟨19, _⟩ => ⟨S1x4, .f32⟩
  | .hbm, ⟨20, _⟩ => ⟨S1x32, .f32⟩
  | .hbm, ⟨21, _⟩ => ⟨S1x32, .f32⟩
  | .hbm, ⟨22, _⟩ => ⟨S1x64, .f32⟩
  | .hbm, ⟨23, _⟩ => ⟨S1x3, .f32⟩
  | .hbm, ⟨24, _⟩ => ⟨S1024x12, .f32⟩
  | .hbm, ⟨25, _⟩ => ⟨S1024x4x3, .f32⟩
  | .hbm, ⟨26, _⟩ => ⟨S4x1024x3, .f32⟩
  | .local _ .vmem, ⟨0, _⟩ => ⟨S1x4, .f32⟩
  | .local _ .vmem, ⟨1, _⟩ => ⟨S1024x12, .f32⟩
  | .local _ .vmem, ⟨2, _⟩ => ⟨S32x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S35x64, .f32⟩
  | .local _ .vmem, ⟨7, _⟩ => ⟨S1x64, .f32⟩
  | .local _ .vmem, ⟨8, _⟩ => ⟨S2x64x64, .f32⟩
  | .local _ .vmem, ⟨9, _⟩ => ⟨S2x64x64, .f32⟩
  | .local _ .vmem, ⟨10, _⟩ => ⟨S2x64x64, .f32⟩
  | .local _ .vmem, ⟨11, _⟩ => ⟨S2x64x64, .f32⟩
  | .local _ .vmem, ⟨12, _⟩ => ⟨S2x4, .f32⟩
  | .local _ .vmem, ⟨13, _⟩ => ⟨S64x3, .f32⟩
  | .local _ .vmem, ⟨14, _⟩ => ⟨S1x3, .f32⟩
  | .local _ .vmem, ⟨15, _⟩ => ⟨S1024x12, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S35x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x12 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== KernelIdeal.lean ====
variable {F : FTy → Type} [FloatOps F] [Named F]
def κ : String → Option EReal := fun
  | "d_self" => some ((Real.sqrt (11258999 / 1125899906842624) : ℝ) : EReal)
  | "mask" => some ⊥
  | _ => none
-- ==== ReferenceIdeal.lean ====
abbrev S4x1024x3 : Shape := ⟨3, ![4, 1024, 3]⟩
abbrev S4 : Shape := ⟨1, ![4]⟩
abbrev S1024x1024 : Shape := ⟨2, ![1024, 1024]⟩
abbrev S32x32 : Shape := ⟨2, ![32, 32]⟩
abbrev S32 : Shape := ⟨1, ![32]⟩
abbrev S35x64 : Shape := ⟨2, ![35, 64]⟩
abbrev S64 : Shape := ⟨1, ![64]⟩
abbrev S2x64x64 : Shape := ⟨3, ![2, 64, 64]⟩
abbrev S2x4 : Shape := ⟨2, ![2, 4]⟩
abbrev S64x3 : Shape := ⟨2, ![64, 3]⟩
abbrev S3 : Shape := ⟨1, ![3]⟩
abbrev S16 : Shape := ⟨1, ![16]⟩
abbrev S_ : Shape := ⟨0, ![]⟩
abbrev S4x1 : Shape := ⟨2, ![4, 1]⟩
abbrev S1x16 : Shape := ⟨2, ![1, 16]⟩
abbrev S4x16 : Shape := ⟨2, ![4, 16]⟩
abbrev S4x32 : Shape := ⟨2, ![4, 32]⟩
abbrev S1x32 : Shape := ⟨2, ![1, 32]⟩
abbrev S4x1x32 : Shape := ⟨3, ![4, 1, 32]⟩
abbrev S4x1024x32 : Shape := ⟨3, ![4, 1024, 32]⟩
abbrev S4x1024x35 : Shape := ⟨3, ![4, 1024, 35]⟩
abbrev S4x1024x64 : Shape := ⟨3, ![4, 1024, 64]⟩
abbrev S1x1x64 : Shape := ⟨3, ![1, 1, 64]⟩
abbrev S4x1x1024x3 : Shape := ⟨4, ![4, 1, 1024, 3]⟩
abbrev S4x1024x1x3 : Shape := ⟨4, ![4, 1024, 1, 3]⟩
abbrev S4x1024x1024x3 : Shape := ⟨4, ![4, 1024, 1024, 3]⟩
abbrev S4x1024x1024 : Shape := ⟨3, ![4, 1024, 1024]⟩
abbrev S1x64x64 : Shape := ⟨3, ![1, 64, 64]⟩
abbrev S64x64 : Shape := ⟨2, ![64, 64]⟩
abbrev S4x1024x4x16 : Shape := ⟨4, ![4, 1024, 4, 16]⟩
abbrev S4x4x1024x16 : Shape := ⟨4, ![4, 4, 1024, 16]⟩
abbrev S4x4x1024x1024 : Shape := ⟨4, ![4, 4, 1024, 1024]⟩
abbrev S1x4 : Shape := ⟨2, ![1, 4]⟩
abbrev S1x4x1x1 : Shape := ⟨4, ![1, 4, 1, 1]⟩
abbrev S4x1x1024x1024 : Shape := ⟨4, ![4, 1, 1024, 1024]⟩
abbrev S1x1x1024x1024 : Shape := ⟨4, ![1, 1, 1024, 1024]⟩
abbrev S4x4x1024 : Shape := ⟨3, ![4, 4, 1024]⟩
abbrev S4x4x1024x1 : Shape := ⟨4, ![4, 4, 1024, 1]⟩
abbrev S1x1x3 : Shape := ⟨3, ![1, 1, 3]⟩

abbrev nBuf : Space → Nat
  | .hbm => 188
  | .vmem => 0
  | .smem => 0
  | _ => 0

abbrev hbmTy0_0 (i : Nat) : BufTy := match i % 128 with
  | 0 => ⟨S4x1024x3, .f32⟩
  | 1 => ⟨S4x1024x3, .f32⟩
  | 2 => ⟨S4, .f32⟩
  | 3 => ⟨S1024x1024, .i1⟩
  | 4 => ⟨S32x32, .f32⟩
  | 5 => ⟨S32, .f32⟩
  | 6 => ⟨S32x32, .f32⟩
  | 7 => ⟨S32, .f32⟩
  | 8 => ⟨S35x64, .f32⟩
  | 9 => ⟨S64, .f32⟩
  | 10 => ⟨S2x64x64, .f32⟩
  | 11 => ⟨S2x64x64, .f32⟩
  | 12 => ⟨S2x64x64, .f32⟩
  | 13 => ⟨S2x64x64, .f32⟩
  | 14 => ⟨S2x4, .f32⟩
  | 15 => ⟨S64x3, .f32⟩
  | 16 => ⟨S3, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S4x1, .f32⟩
  | 26 => ⟨S1x16, .f32⟩
  | 27 => ⟨S4x16, .f32⟩
  | 28 => ⟨S4x16, .f32⟩
  | 29 => ⟨S4x16, .f32⟩
  | 30 => ⟨S4x16, .f32⟩
  | 31 => ⟨S4x16, .f32⟩
  | 32 => ⟨S4x32, .f32⟩
  | 33 => ⟨S4x32, .f32⟩
  | 34 => ⟨S1x32, .f32⟩
  | 35 => ⟨S4x32, .f32⟩
  | 36 => ⟨S4x32, .f32⟩
  | 37 => ⟨S4x32, .f32⟩
  | 38 => ⟨S4x32, .f32⟩
  | 39 => ⟨S_, .f32⟩
  | 40 => ⟨S4x32, .f32⟩
  | 41 => ⟨S4x32, .f32⟩
  | 42 => ⟨S_, .f32⟩
  | 43 => ⟨S4x32, .f32⟩
  | 44 => ⟨S4x32, .f32⟩
  | 45 => ⟨S4x32, .f32⟩
  | 46 => ⟨S4x32, .f32⟩
  | 47 => ⟨S1x32, .f32⟩
  | 48 => ⟨S4x32, .f32⟩
  | 49 => ⟨S4x32, .f32⟩
  | 50 => ⟨S4x1x32, .f32⟩
  | 51 => ⟨S4x1024x32, .f32⟩
  | 52 => ⟨S4x1024x35, .f32⟩
  | 53 => ⟨S4x1024x64, .f32⟩
  | 54 => ⟨S1x1x64, .f32⟩
  | 55 => ⟨S4x1024x64, .f32⟩
  | 56 => ⟨S4x1024x64, .f32⟩
  | 57 => ⟨S4x1x1024x3, .f32⟩
  | 58 => ⟨S4x1024x1x3, .f32⟩
  | 59 => ⟨S4x1024x1024x3, .f32⟩
  | 60 => ⟨S4x1024x1024x3, .f32⟩
  | 61 => ⟨S4x1024x1024x3, .f32⟩
  | 62 => ⟨S4x1024x1024x3, .f32⟩
  | 63 => ⟨S_, .f32⟩
  | 64 => ⟨S4x1024x1024, .f32⟩
  | 65 => ⟨S_, .f32⟩
  | 66 => ⟨S4x1024x1024, .f32⟩
  | 67 => ⟨S4x1024x1024, .f32⟩
  | 68 => ⟨S4x1024x1024, .f32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S1024x1024, .i1⟩
  | 75 => ⟨S1024x1024, .i1⟩
  | 76 => ⟨S1x64x64, .f32⟩
  | 77 => ⟨S64x64, .f32⟩
  | 78 => ⟨S4x1024x64, .f32⟩
  | 79 => ⟨S4x1024x4x16, .f32⟩
  | 80 => ⟨S4x4x1024x16, .f32⟩
  | 81 => ⟨S1x64x64, .f32⟩
  | 82 => ⟨S64x64, .f32⟩
  | 83 => ⟨S4x1024x64, .f32⟩
  | 84 => ⟨S4x1024x4x16, .f32⟩
  | 85 => ⟨S4x4x1024x16, .f32⟩
  | 86 => ⟨S1x64x64, .f32⟩
  | 87 => ⟨S64x64, .f32⟩
  | 88 => ⟨S4x1024x64, .f32⟩
  | 89 => ⟨S4x1024x4x16, .f32⟩
  | 90 => ⟨S4x4x1024x16, .f32⟩
  | 91 => ⟨S4x4x1024x1024, .f32⟩
  | 92 => ⟨S_, .f32⟩
  | 93 => ⟨S4x4x1024x1024, .f32⟩
  | 94 => ⟨S4x4x1024x1024, .f32⟩
  | 95 => ⟨S1x4, .f32⟩
  | 96 => ⟨S4, .f32⟩
  | 97 => ⟨S1x4x1x1, .f32⟩
  | 98 => ⟨S4x1x1024x1024, .f32⟩
  | 99 => ⟨S4x4x1024x1024, .f32⟩
  | 100 => ⟨S4x4x1024x1024, .f32⟩
  | 101 => ⟨S4x4x1024x1024, .f32⟩
  | 102 => ⟨S4x4x1024x1024, .f32⟩
  | 103 => ⟨S1x1x1024x1024, .i1⟩
  | 104 => ⟨S_, .f32⟩
  | 105 => ⟨S_, .f32⟩
  | 106 => ⟨S4x4x1024x1024, .i1⟩
  | 107 => ⟨S4x4x1024x1024, .f32⟩
  | 108 => ⟨S4x4x1024x1024, .f32⟩
  | 109 => ⟨S_, .f32⟩
  | 110 => ⟨S4x4x1024, .f32⟩
  | 111 => ⟨S_, .f32⟩
  | 112 => ⟨S4x4x1024, .f32⟩
  | 113 => ⟨S4x4x1024, .f32⟩
  | 114 => ⟨S4x4x1024x1, .f32⟩
  | 115 => ⟨S4x4x1024x1024, .f32⟩
  | 116 => ⟨S4x4x1024x1024, .f32⟩
  | 117 => ⟨S4x4x1024x1024, .f32⟩
  | 118 => ⟨S_, .f32⟩
  | 119 => ⟨S4x4x1024, .f32⟩
  | 120 => ⟨S4x4x1024x1, .f32⟩
  | 121 => ⟨S4x4x1024x1024, .f32⟩
  | 122 => ⟨S4x4x1024x1024, .f32⟩
  | 123 => ⟨S4x4x1024x16, .f32⟩
  | 124 => ⟨S4x1024x4x16, .f32⟩
  | 125 => ⟨S4x1024x64, .f32⟩
  | 126 => ⟨S1x64x64, .f32⟩
  | 127 => ⟨S64x64, .f32⟩
  | _ => ⟨S4x1024x3, .f32⟩

abbrev hbmTy0_1 (i : Nat) : BufTy := match i % 128 with
  | 0 => ⟨S4x1024x64, .f32⟩
  | 1 => ⟨S4x1024x64, .f32⟩
  | 2 => ⟨S1x64x64, .f32⟩
  | 3 => ⟨S64x64, .f32⟩
  | 4 => ⟨S4x1024x64, .f32⟩
  | 5 => ⟨S4x1024x4x16, .f32⟩
  | 6 => ⟨S4x4x1024x16, .f32⟩
  | 7 => ⟨S1x64x64, .f32⟩
  | 8 => ⟨S64x64, .f32⟩
  | 9 => ⟨S4x1024x64, .f32⟩
  | 10 => ⟨S4x1024x4x16, .f32⟩
  | 11 => ⟨S4x4x1024x16, .f32⟩
  | 12 => ⟨S1x64x64, .f32⟩
  | 13 => ⟨S64x64, .f32⟩
  | 14 => ⟨S4x1024x64, .f32⟩
  | 15 => ⟨S4x1024x4x16, .f32⟩
  | 16 => ⟨S4x4x1024x16, .f32⟩
  | 17 => ⟨S4x4x1024x1024, .f32⟩
  | 18 => ⟨S_, .f32⟩
  | 19 => ⟨S4x4x1024x1024, .f32⟩
  | 20 => ⟨S4x4x1024x1024, .f32⟩
  | 21 => ⟨S1x4, .f32⟩
  | 22 => ⟨S4, .f32⟩
  | 23 => ⟨S1x4x1x1, .f32⟩
  | 24 => ⟨S4x1x1024x1024, .f32⟩
  | 25 => ⟨S4x4x1024x1024, .f32⟩
  | 26 => ⟨S4x4x1024x1024, .f32⟩
  | 27 => ⟨S4x4x1024x1024, .f32⟩
  | 28 => ⟨S4x4x1024x1024, .f32⟩
  | 29 => ⟨S1x1x1024x1024, .i1⟩
  | 30 => ⟨S_, .f32⟩
  | 31 => ⟨S_, .f32⟩
  | 32 => ⟨S4x4x1024x1024, .i1⟩
  | 33 => ⟨S4x4x1024x1024, .f32⟩
  | 34 => ⟨S4x4x1024x1024, .f32⟩
  | 35 => ⟨S_, .f32⟩
  | 36 => ⟨S4x4x1024, .f32⟩
  | 37 => ⟨S_, .f32⟩
  | 38 => ⟨S4x4x1024, .f32⟩
  | 39 => ⟨S4x4x1024, .f32⟩
  | 40 => ⟨S4x4x1024x1, .f32⟩
  | 41 => ⟨S4x4x1024x1024, .f32⟩
  | 42 => ⟨S4x4x1024x1024, .f32⟩
  | 43 => ⟨S4x4x1024x1024, .f32⟩
  | 44 => ⟨S_, .f32⟩
  | 45 => ⟨S4x4x1024, .f32⟩
  | 46 => ⟨S4x4x1024x1, .f32⟩
  | 47 => ⟨S4x4x1024x1024, .f32⟩
  | 48 => ⟨S4x4x1024x1024, .f32⟩
  | 49 => ⟨S4x4x1024x16, .f32⟩
  | 50 => ⟨S4x1024x4x16, .f32⟩
  | 51 => ⟨S4x1024x64, .f32⟩
  | 52 => ⟨S1x64x64, .f32⟩
  | 53 => ⟨S64x64, .f32⟩
  | 54 => ⟨S4x1024x64, .f32⟩
  | 55 => ⟨S4x1024x64, .f32⟩
  | 56 => ⟨S4x1024x3, .f32⟩
  | 57 => ⟨S1x1x3, .f32⟩
  | 58 => ⟨S4x1024x3, .f32⟩
  | 59 => ⟨S4x1024x3, .f32⟩
  | _ => ⟨S4x1024x3, .f32⟩

abbrev hbmTy (i : Nat) : BufTy := match i / 128 with
  | 0 => hbmTy0_0 i
  | 1 => hbmTy0_1 i
  | _ => ⟨S4x1024x3, .f32⟩

abbrev bufTy : (tb : Table) → Fin (tcTables nBuf tb) → BufTy
  | .hbm, ⟨i, _⟩ => hbmTy i
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_1 : Ref sig .tc := ⟨.hbm, 63, rfl⟩
abbrev main_v36 : Ref sig .tc := ⟨.hbm, 64, rfl⟩
abbrev main_cst_2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_3 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_4 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v73 : Ref sig .tc := ⟨.hbm, 108, rfl⟩
abbrev main_cst_5 : Ref sig .tc := ⟨.hbm, 109, rfl⟩
abbrev main_v74 : Ref sig .tc := ⟨.hbm, 110, rfl⟩
abbrev main_cst_6 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_7 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_8 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_9 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v119 : Ref sig .tc := ⟨.hbm, 162, rfl⟩
abbrev main_cst_10 : Ref sig .tc := ⟨.hbm, 163, rfl⟩
abbrev main_v120 : Ref sig .tc := ⟨.hbm, 164, rfl⟩
abbrev main_cst_11 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_12 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩

abbrev nD : Nat := 1
abbrev τ : Topo := Topo.v7x

variable {F : FTy → Type} [FloatOps F]
-- ==== Proof.Packed.lean ====
/- Packed: the kernel lays the four batches side by side in the lanes. The lane of entry `d` of batch `b`, when each
   batch takes `w` lanes, and sums over such lanes. -/
module
public import Idealize.ShloMosaic.Lib.Pointwise

@[expose] public section
noncomputable section
namespace Cert.Proof
open scoped BigOperators

/-- The lane of entry `d` of block `b`, blocks of `w` lanes. -/
def pk (N : ℕ) {n w : ℕ} (h : n * w = N) (b : Fin n) (d : Fin w) : Fin N :=
  ⟨w * b + d, by
    have h1 : (b : ℕ) + 1 ≤ n := b.isLt
    have h2 := Nat.mul_le_mul_left w h1
    rw [Nat.mul_add, Nat.mul_one, Nat.mul_comm w n, h] at h2
    omega⟩

theorem pk_val (N : ℕ) {n w : ℕ} (h : n * w = N) (b : Fin n) (d : Fin w) : (pk N h b d : ℕ) = w * b + d := rfl

theorem pk_div (N : ℕ) {n w : ℕ} (h : n * w = N) (b : Fin n) (d : Fin w) : (pk N h b d : ℕ) / w = b := by
  have hw : 0 < w := by have := d.isLt; omega
  rw [pk_val, Nat.mul_add_div hw, Nat.div_eq_of_lt d.isLt, Nat.add_zero]

theorem pk_mod (N : ℕ) {n w : ℕ} (h : n * w = N) (b : Fin n) (d : Fin w) : (pk N h b d : ℕ) % w = d := by
  rw [pk_val, Nat.mul_add_mod, Nat.mod_eq_of_lt d.isLt]

/-- Every lane is an entry of a block. -/
theorem exists_pk (N : ℕ) {n w : ℕ} (h : n * w = N) (k : Fin N) : ∃ (b : Fin n) (d : Fin w), k = pk N h b d := by
  have hk := k.isLt
  have hw : 0 < w := by
    rcases Nat.eq_zero_or_pos w with h0 | h0
    · subst h0; omega
    · exact h0
  refine ⟨⟨k / w, (Nat.div_lt_iff_lt_mul hw).2 (by omega)⟩, ⟨k % w, Nat.mod_lt _ hw⟩, Fin.ext ?_⟩
  rw [pk_val]
  exact (Nat.div_add_mod _ _).symm

theorem pk_inj (N : ℕ) {n w : ℕ} (h : n * w = N) {b b' : Fin n} {d d' : Fin w} (e : pk N h b d = pk N h b' d') :
    b = b' ∧ d = d' :=
  ⟨Fin.ext (by rw [← pk_div N h b d, e, pk_div]), Fin.ext (by rw [← pk_mod N h b d, e, pk_mod])⟩

/-- A sum over the lanes, block by block. -/
theorem sum_pk {M : Type} [AddCommMonoid M] (N : ℕ) {n w : ℕ} (h : n * w = N) (f : Fin N → M) :
    ∑ k, f k = ∑ b : Fin n, ∑ d : Fin w, f (pk N h b d) := by
  rw [← Fintype.sum_prod_type']
  refine (Fintype.sum_bijective (fun p : Fin n × Fin w => pk N h p.1 p.2) ⟨?_, ?_⟩ _ _ fun _ => rfl).symm
  · rintro ⟨b, d⟩ ⟨b', d'⟩ e
    obtain ⟨h1, h2⟩ := pk_inj N h e
    exact Prod.ext h1 h2
  · intro k
    obtain ⟨b, d, e⟩ := exists_pk N h k
    exact ⟨(b, d), e.symm⟩

/-- A sum over the lanes of terms that vanish off the block `b` is the sum over that block. -/
theorem sum_block {M : Type} [AddCommMonoid M] (N : ℕ) {n w : ℕ} (h : n * w = N) (b : Fin n) (f : Fin N → M)
    (g : Fin w → M) (h0 : ∀ b' d, b' ≠ b → f (pk N h b' d) = 0) (h1 : ∀ d, f (pk N h b d) = g d) :
    ∑ k, f k = ∑ d, g d := by
  rw [sum_pk N h, Finset.sum_eq_single b]
  · exact Finset.sum_congr rfl fun d _ => h1 d
  · intro b' _ hb
    exact Finset.sum_eq_zero fun d _ => h0 b' d hb
  · intro hb
    exact absurd (Finset.mem_univ b) hb

/-- The lanes of the packed arrays: 64 features, 4 heads, 3 coordinates, 32 time channels to a batch; 16 features to a head. -/
abbrev p256 (b : Fin 4) (d : Fin 64) : Fin 256 := pk 256 rfl b d
abbrev p16 (b : Fin 4) (a : Fin 4) : Fin 16 := pk 16 rfl b a
abbrev p12 (b : Fin 4) (c : Fin 3) : Fin 12 := pk 12 rfl b c
abbrev p128 (b : Fin 4) (c : Fin 32) : Fin 128 := pk 128 rfl b c
abbrev p64 (a : Fin 4) (e : Fin 16) : Fin 64 := pk 64 rfl a e

end Cert.Proof
-- ==== Proof.Array.lean ====
/- Array: what the kernel reads of the argument arrays, and what the result array holds after the run. -/
module
public import proofs.«01_k».proof.Proof.Gen.KernelIdeal.Frame
public import proofs.«01_k».proof.Proof.Packed
public import Idealize.ShloMosaic.Lib.Pointwise
public import Idealize.ShloMosaic.Lib.StableHlo.Run
public import Idealize.ShloMosaic.Lib.Pipeline.ValueKit

@[expose] public section
noncomputable section
namespace Cert.Proof
open Idealize.ShloMosaic Idealize.ShloMosaic.TcCoe Idealize.SL.Sem Cert.KernelIdeal Cert.KernelIdeal.Gen
open Idealize.ShloMosaic.Pipeline (Dat)
set_option maxRecDepth 16384

variable (m : (ℓ : Loc nD τ sig) → Buf (Elt Ideal) ℓ) (ρ : Dev nD → PrngReg) (c : Dev nD)

/-- There is no grid: each input's block is its whole array as the region finds it. -/
theorem blocks (t : Fin cfg0.N) :
    iblk m c 0 t = V m c main_v2 ∧ iblk m c 1 t = V m c main_v1 ∧ iblk m c 2 t = V m c main_arg4 ∧
    iblk m c 3 t = V m c main_v3 ∧ iblk m c 4 t = V m c main_arg6 ∧ iblk m c 5 t = V m c main_v4 ∧
    iblk m c 6 t = V m c main_arg8 ∧ iblk m c 7 t = V m c main_v5 ∧ iblk m c 8 t = V m c main_arg10 ∧
    iblk m c 9 t = V m c main_arg11 ∧ iblk m c 10 t = V m c main_arg12 ∧ iblk m c 11 t = V m c main_arg13 ∧
    iblk m c 12 t = V m c main_arg14 ∧ iblk m c 13 t = V m c main_arg15 ∧ iblk m c 14 t = V m c main_v6 := by
  refine ⟨?_, ?_, ?_, ?_, ?_, ?_, ?_, ?_, ?_, ?_, ?_, ?_, ?_, ?_, ?_⟩ <;>
  exact Memref.read_access_unit_zero (Elt Ideal) _ (funext fun a => Nat.zero_mul _) _ _

/-- The region's result array is what the body left in its block. -/
theorem region_array : (dats m 0 c).arrAt 15 cfg0.N =
    out0_15 (V m c main_v2) (V m c main_v1) (V m c main_arg4) (V m c main_v3) (V m c main_arg6) (V m c main_v4) (V m c main_arg8)
      (V m c main_v5) (V m c main_arg10) (V m c main_arg11) (V m c main_arg12) (V m c main_arg13) (V m c main_arg14) (V m c main_arg15)
      (V m c main_v6) := by
  have e : (dats m 0 c).after 15 t0_0 = _ := after0_15 m c t0_0
  obtain ⟨e0, e1, e2, e3, e4, e5, e6, e7, e8, e9, e10, e11, e12, e13, e14⟩ := blocks m c t0_0
  rw [e0, e1, e2, e3, e4, e5, e6, e7, e8, e9, e10, e11, e12, e13, e14] at e
  rw [← e]
  clear e e0 e1 e2 e3 e4 e5 e6 e7 e8 e9 e10 e11 e12 e13 e14
  generalize hG : (dats m 0 c).after 15 t0_0 = G
  refine (dats m 0 c).arrAt_eq_of_after_last 15 t0_0 (by decide +kernel) G fun j => ?_
  rw [hG]
  rfl

/-- The arrays the host lines before the region make are the arguments, laid out anew. -/
theorem v1_eq : V m c main_v1 = shapeCast S1024x12 (transpose S1024x4x3 [1, 0, 2] (m ((c : Thread nD τ).loc main_arg0))
    transposes_S4x1024x3_S1024x4x3_1_0_2) shapeCasts_S1024x4x3_S1024x12 := by
  show StableHlo.after hostOps0 _ (Proc.devRef .tc main_v1) = _
  after_results
  rfl

theorem rows_eq : V m c main_v2 = shapeCast S1x4 (m ((c : Thread nD τ).loc main_arg2)) shapeCasts_S4_S1x4 ∧
    V m c main_v3 = shapeCast S1x32 (m ((c : Thread nD τ).loc main_arg5)) shapeCasts_S32_S1x32 ∧
    V m c main_v4 = shapeCast S1x32 (m ((c : Thread nD τ).loc main_arg7)) shapeCasts_S32_S1x32 ∧
    V m c main_v5 = shapeCast S1x64 (m ((c : Thread nD τ).loc main_arg9)) shapeCasts_S64_S1x64 ∧
    V m c main_v6 = shapeCast S1x3 (m ((c : Thread nD τ).loc main_arg16)) shapeCasts_S3_S1x3 := by
  refine ⟨?_, ?_, ?_, ?_, ?_⟩
  · show StableHlo.after hostOps0 _ (Proc.devRef .tc main_v2) = _
    after_results
    rfl
  · show StableHlo.after hostOps0 _ (Proc.devRef .tc main_v3) = _
    after_results
    rfl
  · show StableHlo.after hostOps0 _ (Proc.devRef .tc main_v4) = _
    after_results
    rfl
  · show StableHlo.after hostOps0 _ (Proc.devRef .tc main_v5) = _
    after_results
    rfl
  · show StableHlo.after hostOps0 _ (Proc.devRef .tc main_v6) = _
    after_results
    rfl

/-- The host lines after the region lay the region's array out anew. -/
theorem tail_eq : Pipeline.afterTail₀ cfgs (dats m) 0 (V0 m) [hostOps1] c main_v9 =
    transpose S4x1024x3 [1, 0, 2] (shapeCast S1024x4x3 ((dats m 0 c).arrAt 15 cfg0.N) shapeCasts_S1024x12_S1024x4x3)
      transposes_S1024x4x3_S4x1024x3_1_0_2 := by
  unfold Pipeline.afterTail₀
  show StableHlo.after hostOps1 _ (Proc.devRef .tc main_v9) = _
  after_results
  exact congrArg (fun X : FVec Ideal S1024x12 .f32 => transpose S4x1024x3 [1, 0, 2] (shapeCast S1024x4x3 X shapeCasts_S1024x12_S1024x4x3)
    transposes_S1024x4x3_S4x1024x3_1_0_2) (Pipeline.withArrays_arr spec0 launch0.win.arr_inj c (V0 m c) (fun w => (dats m 0 c).arrAt w cfg0.N) 15)

/-- A row of the laid out coordinates: the batches side by side. -/
theorem packed_at (x : FVec Ideal S4x1024x3 .f32) (b : Fin 4) (n : Fin 1024) (d : Fin 3) :
    shapeCast S1024x12 (transpose S1024x4x3 [1, 0, 2] x transposes_S4x1024x3_S1024x4x3_1_0_2) shapeCasts_S1024x4x3_S1024x12
      (ix2 n (p12 b d)) = x (ix3 b n d) := by
  pointwise []
  exact congrArg₂ (fun b' d' => x (ix3 b' n d')) (Fin.ext (pk_div 12 rfl b d)) (Fin.ext (pk_mod 12 rfl b d))

/-- And back. -/
theorem unpacked_at (x : FVec Ideal S1024x12 .f32) (b : Fin 4) (n : Fin 1024) (d : Fin 3) :
    transpose S4x1024x3 [1, 0, 2] (shapeCast S1024x4x3 x shapeCasts_S1024x12_S1024x4x3) transposes_S1024x4x3_S4x1024x3_1_0_2
      (ix3 b n d) = x (ix2 n (p12 b d)) := by
  pointwise []
  exact congrArg (fun k => x (ix2 n k)) (Fin.ext (congrArg (· + (d : ℕ)) (Nat.mul_comm (b : ℕ) 3)))

theorem row_at {N : ℕ} (x : FVec Ideal ⟨1, ![N]⟩ .f32) (h) (d : Fin N) : shapeCast ⟨2, ![1, N]⟩ x h (ix2 0 d) = x (ix1 d) := by
  refine (shapeCast_addUnit_apply ![N] x h (ix2 0 d)).trans (congrArg x (funext fun a => ?_))
  match a with
  | ⟨0, _⟩ => rfl

end Cert.Proof
-- ==== Proof.Words.lean ====
/- Words: the integer lines with which the kernel writes its block masks. A floor division of one word by another and
   a remainder are printed with corrections for negative operands; at naturals the corrections do nothing. -/
module
public import Idealize.ShloMosaic.Lib.Pointwise
public import Idealize.ShloMosaic.Lib.Routing.OpsSearch

@[expose] public section
noncomputable section
namespace Cert.Proof
open Idealize.ShloMosaic Idealize.ShloMosaic.Routing Idealize.ShloMosaic.WordCmp

/-- Floor division as printed, at naturals. -/
theorem fdiv_word {x k : ℕ} (hx : x < 2 ^ 31) (h0 : 0 < k) (hk : k < 2 ^ 31) :
    Scalar.select (IntOp.andi
        (IntOp.cmpi .ne
          (IntOp.subi (BitVec.setWidth 32 (IntOp.cmpi .sgt (BitVec.ofNat 32 x) 0#32))
            (BitVec.setWidth 32 (IntOp.cmpi .slt (BitVec.ofNat 32 x) 0#32)))
          (Scalar.subi (Scalar.extui (Scalar.cmpi .sgt (BitVec.ofNat 32 k) 0#32))
            (Scalar.extui (Scalar.cmpi .slt (BitVec.ofNat 32 k) 0#32))))
        (IntOp.cmpi .ne (IntOp.remsi .vector (BitVec.ofNat 32 x) (BitVec.ofNat 32 k)) 0#32))
      (IntOp.subi (IntOp.divsi .vector (BitVec.ofNat 32 x) (BitVec.ofNat 32 k)) 1#32)
      (IntOp.divsi .vector (BitVec.ofNat 32 x) (BitVec.ofNat 32 k)) = BitVec.ofNat 32 (x / k) := by
  rw [remsi_word .vector hx h0 hk, divsi_word .vector hx h0 hk]
  simp only [scalar_cmpi_eq]
  rw [cmpi_sgt_ofNat (w := 32) hx (by decide), cmpi_slt_ofNat (w := 32) hx (by decide),
    cmpi_sgt_ofNat (w := 32) hk (by decide), cmpi_slt_ofNat (w := 32) hk (by decide)]
  rcases Nat.eq_zero_or_pos x with h | h
  · subst h
    simp only [Nat.zero_mod, Nat.zero_div]
    have e : IntOp.cmpi .ne 0#32 0#32 = 0#1 := by decide
    rw [e]
    show Scalar.select (_ &&& 0#1) _ _ = _
    rw [BitVec.and_zero]
    rfl
  · simp only [h, h0, Nat.not_lt_zero, decide_true, decide_false]
    have e : IntOp.cmpi .ne
        (IntOp.subi (BitVec.setWidth 32 (BitVec.ofBool true)) (BitVec.setWidth 32 (BitVec.ofBool false)))
        (Scalar.subi (Scalar.extui (BitVec.ofBool true)) (Scalar.extui (BitVec.ofBool false)) : BitVec 32) = 0#1 := by
      decide
    rw [e]
    show Scalar.select (0#1 &&& _) _ _ = _
    rw [BitVec.zero_and]
    rfl

/-- The divisor of a remainder as printed: 1 in the place of 0. -/
theorem divisor_word {k : ℕ} (h0 : 0 < k) (hk : k < 2 ^ 31) :
    Scalar.select (Scalar.cmpi .eq (BitVec.ofNat 32 k) 0#32) 1#32 (BitVec.ofNat 32 k) = BitVec.ofNat 32 k := by
  have e : (BitVec.ofNat 32 k == 0#32) = false := by
    rw [beq_eq_false_iff_ne]
    exact ofNat32_ne_zero h0 (by omega)
  show Scalar.select (IntOp.cmpi .eq (BitVec.ofNat 32 k) 0#32) _ _ = _
  rw [cmpi_eq_ofNat (w := 32) (by omega) (by decide)]
  simp [Nat.ne_of_gt h0, Scalar.select]

/-- The remainder as printed, at naturals. -/
theorem fmod_word {x k : ℕ} (hx : x < 2 ^ 31) (h0 : 0 < k) (hk : k < 2 ^ 31) :
    Scalar.select (IntOp.andi
        (IntOp.xori
          (IntOp.cmpi .slt (IntOp.remsi .vector (BitVec.ofNat 32 x)
            (Scalar.select (Scalar.cmpi .eq (BitVec.ofNat 32 k) 0#32) 1#32 (BitVec.ofNat 32 k))) 0#32)
          (Scalar.cmpi .slt (Scalar.select (Scalar.cmpi .eq (BitVec.ofNat 32 k) 0#32) 1#32 (BitVec.ofNat 32 k)) 0#32))
        (IntOp.cmpi .ne (IntOp.remsi .vector (BitVec.ofNat 32 x)
          (Scalar.select (Scalar.cmpi .eq (BitVec.ofNat 32 k) 0#32) 1#32 (BitVec.ofNat 32 k))) 0#32))
      (IntOp.addi (IntOp.remsi .vector (BitVec.ofNat 32 x)
          (Scalar.select (Scalar.cmpi .eq (BitVec.ofNat 32 k) 0#32) 1#32 (BitVec.ofNat 32 k)))
        (Scalar.select (Scalar.cmpi .eq (BitVec.ofNat 32 k) 0#32) 1#32 (BitVec.ofNat 32 k)))
      (IntOp.remsi .vector (BitVec.ofNat 32 x)
        (Scalar.select (Scalar.cmpi .eq (BitVec.ofNat 32 k) 0#32) 1#32 (BitVec.ofNat 32 k)))
      = BitVec.ofNat 32 (x % k) := by
  rw [divisor_word h0 hk, remsi_word .vector hx h0 hk]
  have hm : x % k < k := Nat.mod_lt _ h0
  show Scalar.select (IntOp.andi (IntOp.xori _ (IntOp.cmpi .slt (BitVec.ofNat 32 k) 0#32)) _) _ _ = _
  rw [cmpi_slt_ofNat (w := 32) (by omega) (by decide), cmpi_slt_ofNat (w := 32) hk (by decide)]
  simp only [Nat.not_lt_zero, decide_false]
  have e : IntOp.xori (BitVec.ofBool false) (BitVec.ofBool false) = 0#1 := by decide
  rw [e]
  show Scalar.select (0#1 &&& _) _ _ = _
  rw [BitVec.zero_and]
  rfl

/-- A mask as the kernel makes it of a test: one where the test holds, zero elsewhere. -/
theorem mask_word (b : Bool) :
    FloatOps.sitofp (F := Ideal) .f32 (BitVec.setWidth 32 (BitVec.ofBool b)) = if b then (1 : EReal) else 0 := by
  cases b
  · show ((((BitVec.setWidth 32 (BitVec.ofBool false)).toInt : ℤ) : ℝ) : EReal) = _
    simp
  · show ((((BitVec.setWidth 32 (BitVec.ofBool true)).toInt : ℤ) : ℝ) : EReal) = _
    simp

theorem and_ofBool (a b : Bool) : IntOp.andi (BitVec.ofBool a) (BitVec.ofBool b) = BitVec.ofBool (a && b) := by
  cases a <;> cases b <;> rfl

theorem eq_word {a b : ℕ} (ha : a < 2 ^ 31) (hb : b < 2 ^ 31) :
    IntOp.cmpi .eq (BitVec.ofNat 32 a) (BitVec.ofNat 32 b) = BitVec.ofBool (decide (a = b)) :=
  cmpi_eq_ofNat (w := 32) (by omega) (by omega)

end Cert.Proof
-- ==== Proof.Consts.lean ====
/- Consts: the programs' float constants as real numbers, unfolded once. -/
module
public import proofs.«01_k».proof.Proof.Gen.KernelIdeal.Frame
public import Idealize.ShloMosaic.Lib.Pointwise

@[expose] public section
noncomputable section
namespace Cert.Proof
open Idealize.ShloMosaic

theorem ofBits_quarter : Ideal.ofBits .f32 0x3E800000#32 = ((1 / 4 : ℝ) : EReal) := by
  simp [Ideal.ofBits, Ideal.ieee, -EReal.coe_mul]; norm_num

/-- 1e-8 as a float32. -/
theorem ofBits_eps : Ideal.ofBits .f32 0x322BCC77#32 = ((11258999 / 1125899906842624 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_inf : Ideal.ofBits .f32 0xFF800000#32 = ⊥ := by
  simp [Ideal.ofBits, Ideal.ieee, -EReal.coe_mul]

theorem named_mask : (Named.named Cert.KernelIdeal.κ "mask" 0xCE6E6B28#32 : Ideal .f32) = (⊥ : EReal) :=
  IdealRules.named_const.ideal_named_scalar _ _ _ _ rfl

theorem named_d_self : (Named.named Cert.KernelIdeal.κ "d_self" 0x38D1B717#32 : Ideal .f32)
    = ((Real.sqrt (11258999 / 1125899906842624) : ℝ) : EReal) :=
  IdealRules.named_const.ideal_named_scalar _ _ _ _ rfl

/-- The rate of the frequencies: the kernel's word is −log 10000 / 16, the reference's −log 10000, divided by 16 after. -/
theorem ofBits_rate : ∃ r : ℝ, Ideal.ofBits .f32 0xBF135D8E#32 = ((r : ℝ) : EReal) ∧ Ideal.ofBits .f32 0xC1135D8E#32 = ((16 * r : ℝ) : EReal) := by
  refine ⟨-(9657742 / 16777216), ?_, ?_⟩
  · simp [Ideal.ofBits, Ideal.ieee, -EReal.coe_mul]; norm_num
  · simp [Ideal.ofBits, Ideal.ieee, -EReal.coe_mul]; norm_num

end Cert.Proof
-- ==== Proof.Pre.lean ====
/- Pre: what the precondition says, entry by entry: the adjacency is the backbone's, and the entries are real. -/
module
public import proofs.«01_k».proof.Proof.Gen.Pre_backbone
public import Idealize.ShloMosaic.Lib.ReduceAll
public import Idealize.ShloMosaic.Lib.WordCmp
public import Idealize.ShloMosaic.Lib.Pointwise
public import proofs.«01_k».proof.Proof.Words
public import proofs.«01_k».proof.Proof.Consts

@[expose] public section
noncomputable section
namespace Cert.Proof
open Idealize.ShloMosaic Cert.Pre_backbone
set_option maxRecDepth 16384

theorem both_one {a b : BitVec 1} (h : IntOp.andi a b = 1#1) : a = 1#1 ∧ b = 1#1 := by
  revert h
  revert a b
  decide

/-- A conjunction that holds: both parts do. -/
theorem and_holds {s : Shape} {x y : IVec s 1} {i : s.Idx} (h : andi x y i = 1#1) : x i = 1#1 ∧ y i = 1#1 := both_one h

theorem eq_holds {s : Shape} {x y : IVec s 1} {i : s.Idx} (h : cmpi .eq x y i = 1#1) : x i = y i := by
  have h' : IntOp.cmpi .eq (x i) (y i) = 1#1 := h
  revert h'
  generalize x i = a
  generalize y i = b
  revert a b
  decide

instance : Subsingleton S_.Idx := ⟨fun _ _ => funext fun a => a.elim0⟩

theorem ofBits_pinf : Ideal.ofBits .f32 0x7F800000#32 = ⊤ := by
  simp [Ideal.ofBits, Ideal.ieee, -EReal.coe_mul]

/-- An array all of whose absolute values are below infinity has real entries. -/
theorem real_of {s : Shape} {axes : List (Fin s.rank)} {x : FVec Ideal s .f32} {hb : S_.BroadcastsInDim s (![] : Fin 0 → Fin s.rank)} {v : S_.Idx → BitVec 1}
    {hr : s.ReducesTo axes S_} {hu : 0 < S_.numel} {j : S_.Idx}
    (h : Host.reduce IntOp.andi (cmpf .olt (Host.absf x) (broadcastInDim s ![] hb (constant S_ .f32 0x7F800000#32))) v hr hu j = 1#1) (i : s.Idx) :
    ∃ r : ℝ, x i = (r : EReal) := by
  have h' : Ideal.cmp .olt (max (x i) (-x i)) (Ideal.ofBits .f32 0x7F800000#32) = 1#1 := Host.reduce_andi_all _ _ _ _ _ h i
  replace h' := (Ideal.cmp_olt_eq_one _ _).1 (ofBits_pinf ▸ h')
  generalize x i = u at h' ⊢
  induction u using EReal.rec with
  | bot => simp at h'
  | top => simp at h'
  | coe r => exact ⟨r, rfl⟩

/-- A word's last two bits are its remainder by four. -/
theorem and3_word (i : ℕ) : IntOp.andi (BitVec.ofNat 32 i) 3#32 = BitVec.ofNat 32 (i % 4) := by
  apply BitVec.eq_of_toNat_eq
  have h : i % 2 ^ 32 &&& 3 % 2 ^ 32 = i % 2 ^ 32 % 2 ^ 2 := Nat.and_two_pow_sub_one_eq_mod (i % 2 ^ 32) 2
  simp only [IntOp.andi, BitVec.toNat_and, BitVec.toNat_ofNat]
  rw [h]
  omega

theorem add_word (a b : ℕ) : IntOp.addi (BitVec.ofNat 32 a) (BitVec.ofNat 32 b) = BitVec.ofNat 32 (a + b) := (BitVec.ofNat_add a b).symm

theorem or_ofBool (a b : Bool) : IntOp.ori (BitVec.ofBool a) (BitVec.ofBool b) = BitVec.ofBool (a || b) := by
  cases a <;> cases b <;> rfl

theorem ne_word {a b : ℕ} (ha : a < 2 ^ 31) (hb : b < 2 ^ 31) :
    IntOp.cmpi .ne (BitVec.ofNat 32 a) (BitVec.ofNat 32 b) = BitVec.ofBool (decide (a ≠ b)) := by
  have e := eq_word ha hb
  by_cases h : a = b
  · subst h
    simp [IntOp.cmpi]
  · have hn : BitVec.ofNat 32 a ≠ BitVec.ofNat 32 b := fun k => h (by
      have := congrArg BitVec.toNat k
      simp only [BitVec.toNat_ofNat] at this
      omega)
    have hb : (BitVec.ofNat 32 a != BitVec.ofNat 32 b) = true := bne_iff_ne.2 hn
    simp [IntOp.cmpi, h, hb]

/-- Atom `j` is bonded to atom `i`. -/
def bonded (i j : Fin 1024) : Bool :=
  decide ((j.val = i.val + 1 ∧ i.val % 4 ≠ 3 ∨ j.val = i.val + 2 ∧ i.val % 4 = 2) ∨
    (i.val = j.val + 1 ∧ j.val % 4 ≠ 3 ∨ i.val = j.val + 2 ∧ j.val % 4 = 2))

variable {x0 x1 : FVec Ideal S4x1024x3 .f32} {x2 : FVec Ideal S4 .f32} {x3 : IVec S1024x1024 1} {x4 : FVec Ideal S32x32 .f32}
  {x5 : FVec Ideal S32 .f32} {x6 : FVec Ideal S32x32 .f32} {x7 : FVec Ideal S32 .f32} {x8 : FVec Ideal S35x64 .f32} {x9 : FVec Ideal S64 .f32}
  {x10 x11 x12 x13 : FVec Ideal S2x64x64 .f32} {x14 : FVec Ideal S2x4 .f32} {x15 : FVec Ideal S64x3 .f32} {x16 : FVec Ideal S3 .f32}

/-- The entries that the computation needs real, and the bits of the adjacency. -/
theorem pre_splits (h : fn (F := Ideal) x0 x1 x2 x3 x4 x5 x6 x7 x8 x9 x10 x11 x12 x13 x14 x15 x16 = fun _ => 1#1) :
    (∀ i j : Fin 1024, x3 (ix2 i j) = BitVec.ofBool (bonded i j)) ∧
    (∀ i, ∃ r : ℝ, x0 i = (r : EReal)) ∧ (∀ i, ∃ r : ℝ, x2 i = (r : EReal)) ∧ (∀ i, ∃ r : ℝ, x4 i = (r : EReal)) ∧
    (∀ i, ∃ r : ℝ, x5 i = (r : EReal)) ∧ (∀ i, ∃ r : ℝ, x6 i = (r : EReal)) ∧ (∀ i, ∃ r : ℝ, x7 i = (r : EReal)) ∧
    (∀ i, ∃ r : ℝ, x8 i = (r : EReal)) ∧ (∀ i, ∃ r : ℝ, x9 i = (r : EReal)) ∧ (∀ i, ∃ r : ℝ, x10 i = (r : EReal)) ∧
    (∀ i, ∃ r : ℝ, x11 i = (r : EReal)) ∧ (∀ e d : Fin 64, ∃ r : ℝ, x12 (ix3 0 e d) = (r : EReal)) ∧
    (∀ e d : Fin 64, ∃ r : ℝ, x13 (ix3 0 e d) = (r : EReal)) ∧
    (∀ i, ∃ r : ℝ, x14 i = (r : EReal)) := by
  have e := congrFun h (fun a => a.elim0)
  dsimp only [fn, fn_part1, fn_part2, fn_part3, fn_part4, fn_part5, fn_part6] at e
  obtain ⟨e, e14⟩ := and_holds e
  obtain ⟨e, e13⟩ := and_holds e
  obtain ⟨e, e12⟩ := and_holds e
  obtain ⟨e, e11⟩ := and_holds e
  obtain ⟨e, e10⟩ := and_holds e
  obtain ⟨e, e9⟩ := and_holds e
  obtain ⟨e, e8⟩ := and_holds e
  obtain ⟨e, e7⟩ := and_holds e
  obtain ⟨e, e6⟩ := and_holds e
  obtain ⟨e, e5⟩ := and_holds e
  obtain ⟨e, e4⟩ := and_holds e
  obtain ⟨e, e2⟩ := and_holds e
  obtain ⟨e, e0⟩ := and_holds e
  refine ⟨fun i j => ?_, real_of e0, real_of e2, real_of e4, real_of e5, real_of e6, real_of e7, real_of e8, real_of e9,
    real_of e10, real_of e11, fun a d => (real_of e12 (ix2 a d)).imp fun _ k => Eq.trans ?_ k, fun a d => (real_of e13 (ix2 a d)).imp fun _ k => Eq.trans ?_ k,
    real_of e14⟩
  rotate_left
  · pointwise []
  · pointwise []
  have k := eq_holds (Host.reduce_andi_all _ _ _ _ _ e (ix2 i j))
  rw [k]
  pointwise []
  have hi := i.isLt
  have hj := j.isLt
  simp only [add_word, and3_word, or_ofBool, and_ofBool]
  rw [eq_word (by omega) (by omega), eq_word (by omega) (by omega), eq_word (by omega) (by omega), eq_word (by omega) (by omega),
    eq_word (by omega) (by omega), eq_word (by omega) (by omega), ne_word (by omega) (by omega), ne_word (by omega) (by omega)]
  simp only [or_ofBool, and_ofBool]
  refine congrArg BitVec.ofBool ?_
  simp only [bonded, ← Bool.decide_and, ← Bool.decide_or, decide_eq_decide]

end Cert.Proof
-- ==== Proof.KHead.lean ====
/- KHead: the kernel's time embedding, its two dense layers and the first features, each read at an index. -/
module
public import proofs.«01_k».proof.Proof.Words
public import proofs.«01_k».proof.Proof.Packed
public import proofs.«01_k».proof.Proof.Consts

@[expose] public section
noncomputable section
namespace Cert.Proof
open Idealize.ShloMosaic Cert.KernelIdeal Cert.KernelIdeal.Gen
open scoped BigOperators
set_option maxRecDepth 16384

theorem sitofp_word {n : ℕ} (h : n < 2 ^ 31) : FloatOps.sitofp (F := Ideal) .f32 (BitVec.ofNat 32 n) = (((n : ℕ) : ℝ) : EReal) := by
  show ((((BitVec.ofNat 32 n).toInt : ℤ) : ℝ) : EReal) = _
  rw [WordCmp.toInt_ofNat_of_lt (w := 32) (by omega), Int.cast_natCast]

/-- The four times, one copy after another. -/
def ktimes (x0 : Vec Ideal S1x4 .f32) : FVec Ideal S1x64 .f32 :=
  concatenate S1x64 1 (List.replicate 16 ⟨S1x4, shapeCast S1x4 x0 shapeCasts_S1x4_S1x4⟩)
    concatenates_S1x4_S1x4_S1x4_S1x4_S1x4_S1x4_S1x4_S1x4_S1x4_S1x4_S1x4_S1x4_S1x4_S1x4_S1x4_S1x4_S1x64_d1

theorem ktimes_at (x0 : Vec Ideal S1x4 .f32) (r : Fin 64) : ktimes x0 (ix2 0 r) = x0 (ix2 0 ⟨r % 4, by omega⟩) := by
  unfold ktimes
  rw [concatenate_replicate_apply (1 : Fin S1x64.rank) 16 (shapeCast S1x4 x0 shapeCasts_S1x4_S1x4) _ rfl (ix2 0 r) (ix2 0 ⟨r % 4, by omega⟩)
    rfl (fun b hb => by
      match b with
      | ⟨0, _⟩ => rfl
      | ⟨1, _⟩ => exact absurd rfl hb)]
  pointwise []

/-- The frequencies: lane `r` has the frequency numbered by `r / 4`. -/
def kfreq : FVec Ideal S1x64 .f32 :=
  let i : IVec S1x64 32 := iota .tc S1x64 32 [1] iota_S1x64_d1_w32
  let q : IVec S1x64 32 := divsi i (broadcast S1x64 4#32)
  let neg : IVec S1x64 1 := andi
    (cmpi .ne (subi (extui 32 (cmpi .sgt i (broadcast S1x64 0#32)) natLt_1_32) (extui 32 (cmpi .slt i (broadcast S1x64 0#32)) natLt_1_32))
      (broadcast S1x64 (Scalar.subi (Scalar.extui (Scalar.cmpi .sgt 4#32 0#32)) (Scalar.extui (Scalar.cmpi .slt 4#32 0#32)))))
    (cmpi .ne (remsi i (broadcast S1x64 4#32)) (broadcast S1x64 0#32))
  exp (mulf (broadcast S1x64 (Scalar.ofBits .f32 0xBF135D8E#32)) (sitofp .f32 (select neg (subi q (broadcast S1x64 1#32)) q)))

theorem pay2_eq (x0 : Vec Ideal S1x4 .f32) : k0_pay2 (F := Ideal) x0 = mulf (ktimes x0) kfreq := rfl

/-- The angles: lane `4 f + b` is the time of batch `b` times frequency `f`. -/
theorem angle_at (x0 : Vec Ideal S1x4 .f32) (f : Fin 16) (b : Fin 4) :
    k0_pay2 (F := Ideal) x0 (ix2 0 (pk 64 rfl f b)) = x0 (ix2 0 b) * Ideal.exp (Ideal.ofBits .f32 0xBF135D8E#32 * (((f : ℕ) : ℝ) : EReal)) := by
  rw [pay2_eq]
  pointwise [kfreq]
  rw [ktimes_at, fdiv_word (by omega) (by decide) (by decide), sitofp_word (by omega), pk_div]
  exact congrArg (· * _) (congrArg x0 (congrArg (ix2 0) (Fin.ext (pk_mod 64 rfl f b))))

/-- A sum that a mask reduces to one term. -/
theorem sum_pick {n : ℕ} (f : Fin n → EReal) (p : Fin n → Prop) [DecidablePred p] (y : Fin n) (h : ∀ x, p x ↔ x = y) :
    ∑ x, f x * (if p x then 1 else 0) = f y := by
  rw [Finset.sum_eq_single y]
  · rw [if_pos ((h y).2 rfl), mul_one]
  · intro x _ hx
    rw [if_neg (fun e => hx ((h x).1 e)), mul_zero]
  · intro e
    exact absurd (Finset.mem_univ _) e

theorem sum_pick_none {n : ℕ} (f : Fin n → EReal) (p : Fin n → Prop) [DecidablePred p] (h : ∀ x, ¬ p x) :
    ∑ x, f x * (if p x then 1 else 0) = 0 :=
  Finset.sum_eq_zero fun x _ => by rw [if_neg (h x), mul_zero]

section
variable (x0 : Vec Ideal S1x4 .f32) (x1 : Vec Ideal S1024x12 .f32) (x2 : Vec Ideal S32x32 .f32) (x3 : Vec Ideal S1x32 .f32)
  (x4 : Vec Ideal S32x32 .f32) (x5 : Vec Ideal S1x32 .f32) (x6 : Vec Ideal S35x64 .f32) (x7 : Vec Ideal S1x64 .f32)
  (x8 x9 x10 x11 : Vec Ideal S2x64x64 .f32) (x12 : Vec Ideal S2x4 .f32) (x13 : Vec Ideal S64x3 .f32) (x14 : Vec Ideal S1x3 .f32)

/-- The sines and cosines brought into the order of the lanes. -/
def korder (s c : FVec Ideal S1x64 .f32) : FVec Ideal S1x128 .f32 :=
  k0_pay12 (F := Ideal) s c (k0_pay123 x0 x1 x2 x3 x4 x5 x6 x7 x8 x9 x10 x11 x12 x13 x14)
    (k0_pay125 x0 x1 x2 x3 x4 x5 x6 x7 x8 x9 x10 x11 x12 x13 x14) (k0_pay10 (F := Ideal) (k0_pay123 x0 x1 x2 x3 x4 x5 x6 x7 x8 x9 x10 x11 x12 x13 x14) (k0_pay125 x0 x1 x2 x3 x4 x5 x6 x7 x8 x9 x10 x11 x12 x13 x14) (Scalar.select (Scalar.cmpi .eq 32#32 0#32) 1#32 32#32) (k0_pay8 (k0_pay124 x0 x1 x2 x3 x4 x5 x6 x7 x8 x9 x10 x11 x12 x13 x14)) (k0_pay9 (k0_pay124 x0 x1 x2 x3 x4 x5 x6 x7 x8 x9 x10 x11 x12 x13 x14))) (k0_pay11 (k0_pay124 x0 x1 x2 x3 x4 x5 x6 x7 x8 x9 x10 x11 x12 x13 x14))

theorem korder_sum (s c : FVec Ideal S1x64 .f32) (r : Fin 128) :
    korder x0 x1 x2 x3 x4 x5 x6 x7 x8 x9 x10 x11 x12 x13 x14 s c (ix2 0 r)
      = (∑ x : Fin 64, s (ix2 0 x) * (if (r : ℕ) / 32 = (x : ℕ) % 4 ∧ (r : ℕ) % 32 = (x : ℕ) / 4 then 1 else 0))
        + ∑ x : Fin 64, c (ix2 0 x) * (if (r : ℕ) / 32 = (x : ℕ) % 4 ∧ (r : ℕ) % 32 = 16 + (x : ℕ) / 4 then 1 else 0) := by
  pointwise [korder, k0_pay12, k0_pay10, k0_pay11, k0_pay8, k0_pay9, k0_pay123, k0_pay124, k0_pay125, k0_pay7, k0_pay5, k0_pay6]
  refine congrArg₂ (· + ·) (Finset.sum_congr rfl fun x _ => ?_) (Finset.sum_congr rfl fun x _ => ?_)
  · rw [fdiv_word (x := (r : ℕ)) (by omega) (by decide) (by decide), fdiv_word (x := (x : ℕ)) (by omega) (by decide) (by decide),
      fmod_word (x := (r : ℕ)) (by omega) (by decide) (by decide), fmod_word (x := (x : ℕ)) (by omega) (by decide) (by decide),
      eq_word (by omega) (by omega), eq_word (by omega) (by omega), and_ofBool, mask_word]
    simp
  · rw [fdiv_word (x := (r : ℕ)) (by omega) (by decide) (by decide), fdiv_word (x := (x : ℕ)) (by omega) (by decide) (by decide),
      fmod_word (x := (r : ℕ)) (by omega) (by decide) (by decide), fmod_word (x := (x : ℕ)) (by omega) (by decide) (by decide)]
    have h16 : IntOp.addi 16#32 (BitVec.ofNat 32 ((x : ℕ) / 4)) = BitVec.ofNat 32 (16 + (x : ℕ) / 4) := (BitVec.ofNat_add _ _).symm
    rw [h16, eq_word (by omega) (by omega), eq_word (by omega) (by omega), and_ofBool, mask_word]
    simp

theorem korder_at (s c : FVec Ideal S1x64 .f32) (b : Fin 4) (d : Fin 32) :
    korder x0 x1 x2 x3 x4 x5 x6 x7 x8 x9 x10 x11 x12 x13 x14 s c (ix2 0 (p128 b d))
      = if h : (d : ℕ) < 16 then s (ix2 0 (pk 64 rfl (⟨d, h⟩ : Fin 16) b)) else c (ix2 0 (pk 64 rfl (⟨d - 16, by omega⟩ : Fin 16) b)) := by
  rw [korder_sum, pk_div, pk_mod]
  by_cases h : (d : ℕ) < 16
  · rw [dif_pos h, sum_pick_none (fun x => c (ix2 0 x)) _ (fun x => by omega), add_zero]
    refine sum_pick (fun x => s (ix2 0 x)) _ _ fun x => ?_
    rw [Fin.ext_iff, pk_val]
    simp only
    omega
  · rw [dif_neg h, sum_pick_none (fun x => s (ix2 0 x)) _ (fun x => by omega), zero_add]
    refine sum_pick (fun x => c (ix2 0 x)) _ _ fun x => ?_
    rw [Fin.ext_iff, pk_val]
    simp only
    omega
end

/-- A 32 × 32 weight tiled four times each way, and the mask of the diagonal blocks. -/
theorem tile32_at (w : Vec Ideal S32x32 .f32) (r c : Fin 128) : k0_pay13 (F := Ideal) w (ix2 r c) = w (ix2 ⟨r % 32, by omega⟩ ⟨c % 32, by omega⟩) := by
  pointwise [k0_pay13]
  split_ifs <;> exact congrArg w (congrArg₂ ix2 (Fin.ext (by show _ = (r : ℕ) % 32; simp only; omega)) (Fin.ext (by show _ = (c : ℕ) % 32; simp only; omega)))

theorem tile64_at (w : Vec Ideal S32x64 .f32) (r : Fin 128) (c : Fin 256) : k0_pay25 (F := Ideal) w (ix2 r c) = w (ix2 ⟨r % 32, by omega⟩ ⟨c % 64, by omega⟩) := by
  pointwise [k0_pay25]
  split_ifs <;> exact congrArg w (congrArg₂ ix2 (Fin.ext (by show _ = (r : ℕ) % 32; simp only; omega)) (Fin.ext (by show _ = (c : ℕ) % 64; simp only; omega)))

theorem tile3_at (w : Vec Ideal S3x64 .f32) (r : Fin 12) (c : Fin 256) : k0_pay30 (F := Ideal) w (ix2 r c) = w (ix2 ⟨r % 3, by omega⟩ ⟨c % 64, by omega⟩) := by
  pointwise [k0_pay30]
  split_ifs <;> exact congrArg w (congrArg₂ ix2 (Fin.ext (by show _ = (r : ℕ) % 3; simp only; omega)) (Fin.ext (by show _ = (c : ℕ) % 64; simp only; omega)))

/-- A product with a masked tiled weight is the product with the weight, batch by batch. -/
theorem sum_tile {N n w : ℕ} (hN : n * w = N) (f : Fin N → EReal) (g : Fin N → EReal) (p : Fin N → Prop) [DecidablePred p] (W : Fin w → EReal) (b : Fin n)
    (hp : ∀ x, p x ↔ (x : ℕ) / w = b) (hg : ∀ e, g (pk N hN b e) = W e) :
    ∑ x, f x * (g x * (if p x then 1 else 0)) = ∑ e, f (pk N hN b e) * W e := by
  refine sum_block N hN b _ _ (fun b' e hb => ?_) (fun e => ?_)
  · rw [if_neg (fun h => hb (Fin.ext (by rw [← pk_div N hN b' e]; exact (hp _).1 h))), mul_zero, mul_zero]
  · rw [if_pos ((hp _).2 (pk_div N hN b e)), mul_one, hg]

/-- The first dense layer before its bias. -/
theorem dense1_at (v : FVec Ideal S1x128 .f32) (w : Vec Ideal S32x32 .f32) (b : Fin 4) (d : Fin 32) :
    k0_pay17 (F := Ideal) v (k0_pay13 w) (iota .tc S128x128 32 [0] iota_S128x128_d0_w32) 32#32 k0_pay14 k0_pay15 k0_pay16 (ix2 0 (p128 b d))
      = ∑ e : Fin 32, v (ix2 0 (p128 b e)) * w (ix2 e d) := by
  have key : ∀ r : Fin 128, k0_pay17 (F := Ideal) v (k0_pay13 w) (iota .tc S128x128 32 [0] iota_S128x128_d0_w32) 32#32 k0_pay14 k0_pay15 k0_pay16 (ix2 0 r)
      = ∑ x : Fin 128, v (ix2 0 x) * (k0_pay13 (F := Ideal) w (ix2 x r) * (if (x : ℕ) / 32 = (r : ℕ) / 32 then 1 else 0)) := fun r => by
    pointwise [k0_pay17, k0_pay14, k0_pay15, k0_pay16]
    refine Finset.sum_congr rfl fun x _ => ?_
    rw [fdiv_word (x := (r : ℕ)) (by omega) (by decide) (by decide), fdiv_word (x := (x : ℕ)) (by omega) (by decide) (by decide),
      eq_word (by omega) (by omega), mask_word]
    simp
  rw [key, pk_div]
  refine sum_tile rfl (fun x => v (ix2 0 x)) (fun x => k0_pay13 (F := Ideal) w (ix2 x (p128 b d))) _ (fun e => w (ix2 e d)) b (fun x => Iff.rfl) (fun e => ?_)
  rw [tile32_at]
  exact congrArg w (congrArg₂ ix2 (Fin.ext (pk_mod 128 rfl b e)) (Fin.ext (pk_mod 128 rfl b d)))

/-- Its bias and its activation. -/
theorem silu_at (v : FVec Ideal S1x128 .f32) (c : Vec Ideal S1x32 .f32) (b : Fin 4) (d : Fin 32) :
    k0_pay18 (F := Ideal) v c (ix2 0 (p128 b d))
      = (v (ix2 0 (p128 b d)) + c (ix2 0 d)) * Ideal.logistic (v (ix2 0 (p128 b d)) + c (ix2 0 d)) := by
  have key : ∀ r : Fin 128, k0_pay18 (F := Ideal) v c (ix2 0 r)
      = (v (ix2 0 r) + c (ix2 0 ⟨r % 32, by omega⟩)) * Ideal.logistic (v (ix2 0 r) + c (ix2 0 ⟨r % 32, by omega⟩)) := fun r => by
    pointwise [k0_pay18]
    have e : ∀ x y : Fin 32, x = y → (v (ix2 0 r) + c (ix2 0 x)) * Ideal.logistic (v (ix2 0 r) + c (ix2 0 x)) = (v (ix2 0 r) + c (ix2 0 y)) * Ideal.logistic (v (ix2 0 r) + c (ix2 0 y)) := fun x y h => by rw [h]
    split_ifs <;> exact e _ _ (Fin.ext (by show _ = (r : ℕ) % 32; (try simp only); omega))
  rw [key]
  have h : (⟨(p128 b d : ℕ) % 32, by omega⟩ : Fin 32) = d := Fin.ext (pk_mod 128 rfl b d)
  rw [h]

/-- The second dense layer with its bias. -/
theorem dense2_at (v : FVec Ideal S1x128 .f32) (w : Vec Ideal S32x32 .f32) (c : Vec Ideal S1x32 .f32) (b : Fin 4) (d : Fin 32) :
    k0_pay23 (F := Ideal) v (k0_pay19 w) k0_pay20 (iota .tc S128x128 32 [1] iota_S128x128_d1_w32) 32#32 k0_pay21 k0_pay22
        (Scalar.extui (Scalar.cmpi .sgt 32#32 0#32)) 0#32 c (ix2 0 (p128 b d))
      = (∑ e : Fin 32, v (ix2 0 (p128 b e)) * w (ix2 e d)) + c (ix2 0 d) := by
  have key : ∀ r : Fin 128, k0_pay23 (F := Ideal) v (k0_pay19 w) k0_pay20 (iota .tc S128x128 32 [1] iota_S128x128_d1_w32) 32#32 k0_pay21 k0_pay22
        (Scalar.extui (Scalar.cmpi .sgt 32#32 0#32)) 0#32 c (ix2 0 r)
      = (∑ x : Fin 128, v (ix2 0 x) * (k0_pay19 (F := Ideal) w (ix2 x r) * (if (x : ℕ) / 32 = (r : ℕ) / 32 then 1 else 0)))
        + c (ix2 0 ⟨r % 32, by omega⟩) := fun r => by
    pointwise [k0_pay23, k0_pay20, k0_pay21, k0_pay22]
    refine congrArg₂ (· + ·) (Finset.sum_congr rfl fun x _ => ?_) ?_
    · rw [fdiv_word (x := (r : ℕ)) (by omega) (by decide) (by decide), fdiv_word (x := (x : ℕ)) (by omega) (by decide) (by decide),
        eq_word (by omega) (by omega), mask_word]
      simp
    · split_ifs <;> exact congrArg c (congrArg (ix2 0) (Fin.ext (by show _ = (r : ℕ) % 32; (try simp only); omega)))
  rw [key, pk_div]
  refine congrArg₂ (· + ·) (sum_tile rfl (fun x => v (ix2 0 x)) (fun x => k0_pay13 (F := Ideal) w (ix2 x (p128 b d))) _ (fun e => w (ix2 e d)) b (fun x => Iff.rfl) (fun e => ?_))
    (congrArg c (congrArg (ix2 0) (Fin.ext (pk_mod 128 rfl b d))))
  rw [tile32_at]
  exact congrArg w (congrArg₂ ix2 (Fin.ext (pk_mod 128 rfl b e)) (Fin.ext (pk_mod 128 rfl b d)))

/-- The time embedding through the first 32 rows of the input weight. -/
theorem embed_at (v : FVec Ideal S1x128 .f32) (w : Vec Ideal S32x64 .f32) (b : Fin 4) (d : Fin 64) :
    k0_pay29 (F := Ideal) v (k0_pay25 w) k0_pay26 k0_pay27 k0_pay28 (ix2 0 (p256 b d)) = ∑ e : Fin 32, v (ix2 0 (p128 b e)) * w (ix2 e d) := by
  have key : ∀ r : Fin 256, k0_pay29 (F := Ideal) v (k0_pay25 w) k0_pay26 k0_pay27 k0_pay28 (ix2 0 r)
      = ∑ x : Fin 128, v (ix2 0 x) * (k0_pay25 (F := Ideal) w (ix2 x r) * (if (x : ℕ) / 32 = (r : ℕ) / 64 then 1 else 0)) := fun r => by
    pointwise [k0_pay29, k0_pay26, k0_pay27, k0_pay28]
    refine Finset.sum_congr rfl fun x _ => ?_
    rw [fdiv_word (x := (r : ℕ)) (by omega) (by decide) (by decide), fdiv_word (x := (x : ℕ)) (by omega) (by decide) (by decide),
      eq_word (by omega) (by omega), mask_word]
    simp
  rw [key, pk_div]
  refine sum_tile rfl (fun x => v (ix2 0 x)) (fun x => k0_pay25 (F := Ideal) w (ix2 x (p256 b d))) _ (fun e => w (ix2 e d)) b (fun x => Iff.rfl) (fun e => ?_)
  rw [tile64_at]
  exact congrArg w (congrArg₂ ix2 (Fin.ext (pk_mod 128 rfl b e)) (Fin.ext (pk_mod 256 rfl b d)))

/-- The mask of the coordinates' product. -/
theorem coords_mask (w : Vec Ideal S3x64 .f32) (x : Fin 12) (r : Fin 256) :
    k0_pay33 (F := Ideal) (k0_pay30 w) (iota .tc S12x256 32 [0] iota_S12x256_d0_w32) 3#32 k0_pay31 k0_pay32 0#32 (ix2 x r)
      = k0_pay30 (F := Ideal) w (ix2 x r) * (if (x : ℕ) / 3 = (r : ℕ) / 64 then 1 else 0) := by
  pointwise [k0_pay33, k0_pay31, k0_pay32]
  rw [fdiv_word (x := (r : ℕ)) (by omega) (by decide) (by decide), fdiv_word (x := (x : ℕ)) (by omega) (by decide) (by decide),
    eq_word (by omega) (by omega), mask_word]
  simp

/-- The first features: the embedding's part, the coordinates' part and the bias. -/
theorem feats_at (u : FVec Ideal S1024x12 .f32) (s : FVec Ideal S1x256 .f32) (m : FVec Ideal S12x256 .f32) (c : Vec Ideal S1x64 .f32) (w : Vec Ideal S3x64 .f32)
    (hm : ∀ x r, m (ix2 x r) = k0_pay30 (F := Ideal) w (ix2 x r) * (if (x : ℕ) / 3 = (r : ℕ) / 64 then 1 else 0)) (n : Fin 1024) (b : Fin 4) (d : Fin 64) :
    k0_pay34 (F := Ideal) u s m (constant S1024x256 .f32 0x00000000#32) c (ix2 n (p256 b d))
      = s (ix2 0 (p256 b d)) + (∑ e : Fin 3, u (ix2 n (p12 b e)) * w (ix2 e d)) + c (ix2 0 d) := by
  have key : ∀ r : Fin 256, k0_pay34 (F := Ideal) u s m (constant S1024x256 .f32 0x00000000#32) c (ix2 n r)
      = s (ix2 0 r) + (∑ x : Fin 12, u (ix2 n x) * m (ix2 x r)) + c (ix2 0 ⟨r % 64, by omega⟩) := fun r => by
    pointwise [k0_pay34]
    refine congrArg₂ (· + ·) rfl ?_
    split_ifs <;> exact congrArg c (congrArg (ix2 0) (Fin.ext (by show _ = (r : ℕ) % 64; (try simp only); omega)))
  rw [key]
  refine congrArg₂ (· + ·) (congrArg (s (ix2 0 (p256 b d)) + ·) ?_) (congrArg c (congrArg (ix2 0) (Fin.ext (pk_mod 256 rfl b d))))
  refine (Finset.sum_congr rfl fun x _ => by rw [hm]).trans ?_
  rw [pk_div]
  refine sum_tile rfl (fun x => u (ix2 n x)) (fun x => k0_pay30 (F := Ideal) w (ix2 x (p256 b d))) _ (fun e => w (ix2 e d)) b (fun x => Iff.rfl) (fun e => ?_)
  rw [tile3_at]
  exact congrArg w (congrArg₂ ix2 (Fin.ext (pk_mod 12 rfl b e)) (Fin.ext (pk_mod 256 rfl b d)))

end Cert.Proof
-- ==== Proof.RefHead.lean ====
/- RefHead: the reference outside its layers, read at an index: the time embedding, the dense layers, the first features,
   the distances, the mask, the weights of each layer and the last product. -/
module
public import proofs.«01_k».proof.Proof.Gen.ReferenceIdeal.Read
public import Idealize.ShloMosaic.Lib.Pointwise
public import proofs.«01_k».proof.Proof.Consts

@[expose] public section
noncomputable section
namespace Cert.Proof
open Idealize.ShloMosaic Cert.ReferenceIdeal Cert.ReferenceIdeal.Gen Cert.ReferenceIdeal.Read
open scoped BigOperators
set_option maxRecDepth 16384

theorem sitofp_nat {n : ℕ} (h : n < 2 ^ 31) : FloatOps.sitofp (F := Ideal) .f32 (BitVec.ofNat 32 n) = (((n : ℕ) : ℝ) : EReal) := by
  show ((((BitVec.ofNat 32 n).toInt : ℤ) : ℝ) : EReal) = _
  rw [WordCmp.toInt_ofNat_of_lt (w := 32) (by omega), Int.cast_natCast]

section
variable (x0 : FVec Ideal S4x1024x3 .f32) (x2 : FVec Ideal S4 .f32) (x3 : IVec S1024x1024 1) (x4 : FVec Ideal S32x32 .f32) (x5 : FVec Ideal S32 .f32)
  (x6 : FVec Ideal S32x32 .f32) (x7 : FVec Ideal S32 .f32) (x8 : FVec Ideal S35x64 .f32) (x9 : FVec Ideal S64 .f32)
  (x10 x11 x12 x13 : FVec Ideal S2x64x64 .f32) (x14 : FVec Ideal S2x4 .f32) (x15 : FVec Ideal S64x3 .f32) (x16 : FVec Ideal S3 .f32)

/-- The angle of a batch and a frequency. -/
theorem rangle_at (b : Fin 4) (f : Fin 16) : val_main_v10 (F := Ideal) x2 (ix2 b f)
    = x2 (ix1 b) * Ideal.exp (Ideal.div (Ideal.ofBits .f32 0xC1135D8E#32 * (((f : ℕ) : ℝ) : EReal)) ((16 : ℝ) : EReal)) := by
  pointwise [val_main_v10, val_main_v8, val_main_v9, val_main_v7, val_main_v6, val_main_v5, val_main_v4, val_main_v3, val_main_v2, val_main_v1, val_main_v0, val_main_cst, val_main_cst_0]
  rw [ofBits_sixteen, sitofp_nat (by omega)]

theorem remb_at (b : Fin 4) (d : Fin 32) : val_main_v13 (F := Ideal) x2 (ix2 b d)
    = if h : (d : ℕ) < 16 then Ideal.sin (val_main_v10 (F := Ideal) x2 (ix2 b ⟨d, h⟩)) else Ideal.cos (val_main_v10 (F := Ideal) x2 (ix2 b ⟨d - 16, by omega⟩)) := by
  pointwise [val_main_v13, val_main_v11, val_main_v12]

theorem rdense1_at (b : Fin 4) (d : Fin 32) : val_main_v17 (F := Ideal) x2 x4 x5 (ix2 b d)
    = (∑ e : Fin 32, val_main_v13 (F := Ideal) x2 (ix2 b e) * x4 (ix2 e d)) + x5 (ix1 d) := by
  pointwise [val_main_v17, val_main_v14, val_main_v16, val_main_v15]

theorem rsilu_at (b : Fin 4) (d : Fin 32) : val_main_v18 (F := Ideal) x2 x4 x5 (ix2 b d)
    = val_main_v17 (F := Ideal) x2 x4 x5 (ix2 b d) * Ideal.logistic (val_main_v17 (F := Ideal) x2 x4 x5 (ix2 b d)) := by
  pointwise [val_main_v18, val_main_call0_v5, val_main_call0_v4, val_main_call0_v3, val_main_call0_v2, val_main_call0_v1, val_main_call0_v0, val_main_call0_cst, val_main_call0_cst_0]
  rfl

theorem rdense2_at (b : Fin 4) (d : Fin 32) : val_main_v22 (F := Ideal) x2 x4 x5 x6 x7 (ix2 b d)
    = (∑ e : Fin 32, val_main_v18 (F := Ideal) x2 x4 x5 (ix2 b e) * x6 (ix2 e d)) + x7 (ix1 d) := by
  pointwise [val_main_v22, val_main_v19, val_main_v21, val_main_v20]

theorem rinput_at (b : Fin 4) (n : Fin 1024) (e : Fin 35) : val_main_v25 (F := Ideal) x0 x2 x4 x5 x6 x7 (ix3 b n e)
    = if h : (e : ℕ) < 32 then val_main_v22 (F := Ideal) x2 x4 x5 x6 x7 (ix2 b ⟨e, h⟩) else x0 (ix3 b n ⟨e - 32, by omega⟩) := by
  pointwise [val_main_v25, val_main_v24, val_main_v23]

theorem rfeats_at (b : Fin 4) (n : Fin 1024) (d : Fin 64) : val_main_v29 (F := Ideal) x0 x2 x4 x5 x6 x7 x8 x9 (ix3 b n d)
    = (∑ e : Fin 32, val_main_v22 (F := Ideal) x2 x4 x5 x6 x7 (ix2 b e) * x8 (ix2 ⟨e, by omega⟩ d))
      + (∑ e : Fin 3, x0 (ix3 b n e) * x8 (ix2 ⟨32 + e, by omega⟩ d)) + x9 (ix1 d) := by
  have key : val_main_v29 (F := Ideal) x0 x2 x4 x5 x6 x7 x8 x9 (ix3 b n d)
      = (∑ e : Fin 35, val_main_v25 (F := Ideal) x0 x2 x4 x5 x6 x7 (ix3 b n e) * x8 (ix2 e d)) + x9 (ix1 d) := by
    pointwise [val_main_v29, val_main_v26, val_main_v28, val_main_v27]
  rw [key]
  refine congrArg (· + _) ?_
  refine (Fin.sum_univ_add (a := 32) (b := 3) (fun e : Fin 35 => val_main_v25 (F := Ideal) x0 x2 x4 x5 x6 x7 (ix3 b n e) * x8 (ix2 e d))).trans ?_
  refine congrArg₂ (· + ·) (Finset.sum_congr rfl fun e _ => ?_) (Finset.sum_congr rfl fun e _ => ?_)
  · rw [rinput_at, dif_pos (show ((Fin.castAdd 3 e : Fin 35) : ℕ) < 32 from e.isLt)]
    rfl
  · rw [rinput_at, dif_neg (show ¬ ((Fin.natAdd 32 e : Fin 35) : ℕ) < 32 by simp)]
    refine congrArg₂ (· * ·) (congrArg x0 (congrArg (ix3 b n) (Fin.ext ?_))) rfl
    show 32 + (e : ℕ) - 32 = e
    omega

theorem rdist_at (b : Fin 4) (i j : Fin 1024) : val_main_v39 (F := Ideal) x0 (ix3 b i j)
    = Ideal.sqrt ((∑ c : Fin 3, (x0 (ix3 b j c) - x0 (ix3 b i c)) * (x0 (ix3 b j c) - x0 (ix3 b i c))) + ((11258999 / 1125899906842624 : ℝ) : EReal)) := by
  pointwise [val_main_v39, val_main_v38, val_main_v37, val_main_v36, val_main_v35, val_main_v34, val_main_v33, val_main_v32, val_main_v31, val_main_v30, val_main_cst_1, val_main_cst_2]
  rw [ofBits_eps]

theorem rmask_at (i j : Fin 1024) : val_main_v45 (F := Ideal) x3 (ix2 i j) = x3 (ix2 i j) ||| BitVec.ofBool (decide (i = j)) := by
  pointwise [val_main_v45, val_main_v44, val_main_v43, val_main_v42, val_main_v41, val_main_v40, val_main_c]
  have h0 : IntOp.addi (BitVec.ofNat 32 i) 0#32 = BitVec.ofNat 32 i := BitVec.add_zero _
  rw [h0, WordCmp.cmpi_eq_ofNat (w := 32) (by omega) (by omega)]
  simp only [← Fin.ext_iff]
  rfl

theorem rq0_at (e d : Fin 64) : val_main_v47 (F := Ideal) x10 (ix2 e d) = x10 (ix3 0 e d) := by pointwise [val_main_v47, val_main_v46]
theorem rk0_at (e d : Fin 64) : val_main_v52 (F := Ideal) x11 (ix2 e d) = x11 (ix3 0 e d) := by pointwise [val_main_v52, val_main_v51]
theorem rv0_at (e d : Fin 64) : val_main_v57 (F := Ideal) x12 (ix2 e d) = x12 (ix3 0 e d) := by pointwise [val_main_v57, val_main_v56]
theorem ro0_at (e d : Fin 64) : val_main_v89 (F := Ideal) x13 (ix2 e d) = x13 (ix3 0 e d) := by pointwise [val_main_v89, val_main_v88]
theorem rs0_at (a : Fin 4) : val_main_v65 (F := Ideal) x14 (ix1 a) = x14 (ix2 0 a) := by pointwise [val_main_v65, val_main_v64]
theorem rq1_at (e d : Fin 64) : val_main_v93 (F := Ideal) x10 (ix2 e d) = x10 (ix3 1 e d) := by pointwise [val_main_v93, val_main_v92]
theorem rk1_at (e d : Fin 64) : val_main_v98 (F := Ideal) x11 (ix2 e d) = x11 (ix3 1 e d) := by pointwise [val_main_v98, val_main_v97]
theorem rv1_at (e d : Fin 64) : val_main_v103 (F := Ideal) x12 (ix2 e d) = x12 (ix3 1 e d) := by pointwise [val_main_v103, val_main_v102]
theorem ro1_at (e d : Fin 64) : val_main_v135 (F := Ideal) x13 (ix2 e d) = x13 (ix3 1 e d) := by pointwise [val_main_v135, val_main_v134]
theorem rs1_at (a : Fin 4) : val_main_v111 (F := Ideal) x14 (ix1 a) = x14 (ix2 1 a) := by pointwise [val_main_v111, val_main_v110]

theorem rout_last (b : Fin 4) (n : Fin 1024) (c : Fin 3) : val_main_v141 (F := Ideal) x0 x2 x3 x4 x5 x6 x7 x8 x9 x10 x11 x12 x13 x14 x15 x16 (ix3 b n c)
    = (∑ e : Fin 64, val_main_v137 (F := Ideal) x0 x2 x3 x4 x5 x6 x7 x8 x9 x10 x11 x12 x13 x14 (ix3 b n e) * x15 (ix2 e c)) + x16 (ix1 c) := by
  pointwise [val_main_v141, val_main_v138, val_main_v140, val_main_v139]
end

end Cert.Proof
-- ==== Proof.Layer.lean ====
/- Layer: one attention layer of the kernel as one function of the packed features, its weights and the masks; the
   kernel's two layers are this function. -/
module
public import proofs.«01_k».proof.Proof.Gen.KernelIdeal.Frame
public import Idealize.ShloMosaic.Lib.Pointwise

@[expose] public section
noncomputable section
namespace Cert.Proof
open Idealize.ShloMosaic Cert.KernelIdeal Cert.KernelIdeal.Gen
set_option maxRecDepth 16384

/-- The features times a weight matrix, batch by batch. -/
def proj (mk : FVec Ideal S256x256 .f32) (h : FVec Ideal S1024x256 .f32) (w : Vec Ideal S1x64x64 .f32) : FVec Ideal S1024x256 .bf16 :=
  truncf .bf16 (matmul dot_S1024x256_S256x256_S1024x256_1_0_0_1_n_n none h (k0_pay98 mk w) (constant S1024x256 .f32 0x00000000#32)) bitsLt_bf16_f32

/-- The rows moved down by two, zeros above. -/
def down2 (v : FVec Ideal S1024x256 .bf16) : FVec Ideal S1024x256 .bf16 :=
  concatenate S1024x256 0 [⟨S2x256, broadcast S2x256 (Scalar.ofBits .bf16 0x0000#16)⟩,
    ⟨S1022x256, extractStridedSlice S1022x256 ![0, 0] v slices_S1024x256_o0_0_S1022x256⟩] concatenates_S2x256_S1022x256_S1024x256_d0

/-- What a layer takes besides the features: the masks, and of the four neighbours of a row the biases and the distances. -/
structure Masks where
  mDD : FVec Ideal S256x256 .f32
  eh : FVec Ideal S256x16 .bf16
  et : FVec Ideal S16x256 .bf16
  bm2 : FVec Ideal S1024x1 .f32
  bm1 : FVec Ideal S1024x1 .f32
  bp1 : FVec Ideal S1024x1 .f32
  bp2 : FVec Ideal S1024x1 .f32
  dm2 : FVec Ideal S1024x16 .f32
  dm1 : FVec Ideal S1024x16 .f32
  dp1 : FVec Ideal S1024x16 .f32
  dp2 : FVec Ideal S1024x16 .f32

/-- The five logits of a row. -/
def lgm2 (M : Masks) (ds : FVec Ideal S1x16 .f32) (q k : FVec Ideal S1024x256 .bf16) := k0_pay108 (F := Ideal) M.bm2 M.dm2 M.eh ds q (down2 k)
def lgm1 (M : Masks) (ds : FVec Ideal S1x16 .f32) (q k : FVec Ideal S1024x256 .bf16) := k0_pay108 (F := Ideal) M.bm1 M.dm1 M.eh ds q (k0_pay88 k)
def lg0 (M : Masks) (ds : FVec Ideal S1x16 .f32) (q k : FVec Ideal S1024x256 .bf16) := k0_pay90 (F := Ideal) M.eh ds q k
def lgp1 (M : Masks) (ds : FVec Ideal S1x16 .f32) (q k : FVec Ideal S1024x256 .bf16) := k0_pay108 (F := Ideal) M.bp1 M.dp1 M.eh ds q (k0_pay91 k)
def lgp2 (M : Masks) (ds : FVec Ideal S1x16 .f32) (q k : FVec Ideal S1024x256 .bf16) := k0_pay108 (F := Ideal) M.bp2 M.dp2 M.eh ds q (k0_pay93 k)

/-- The greatest of them. -/
def lgmax (M : Masks) (ds : FVec Ideal S1x16 .f32) (q k : FVec Ideal S1024x256 .bf16) : FVec Ideal S1024x16 .f32 :=
  maximumf (maximumf (maximumf (maximumf (lgm2 M ds q k) (lgm1 M ds q k)) (lg0 M ds q k)) (lgp1 M ds q k)) (lgp2 M ds q k)

/-- The weighted sum of the neighbours' values. -/
def attn (M : Masks) (ds : FVec Ideal S1x16 .f32) (q k v : FVec Ideal S1024x256 .bf16) : FVec Ideal S1024x256 .bf16 :=
  k0_pay97 (F := Ideal) M.et v (down2 v) (k0_pay88 v) (lgm1 M ds q k) (lg0 M ds q k) (k0_pay91 v) (lgp1 M ds q k) (k0_pay93 v)
    (lgp2 M ds q k) (lgmax M ds q k) (exp (subf (lgm2 M ds q k) (lgmax M ds q k)))

/-- The layer. -/
def klayer (M : Masks) (wq wk wv wo : Vec Ideal S1x64x64 .f32) (dr : Vec Ideal S1x4 .f32) (h : FVec Ideal S1024x256 .f32) :
    FVec Ideal S1024x256 .f32 :=
  k0_pay99 h (attn M (k0_pay81 dr) (proj M.mDD h wq) (proj M.mDD h wk) (proj M.mDD h wv)) (k0_pay98 M.mDD wo)

variable (x0 : Vec Ideal S1x4 .f32) (x1 : Vec Ideal S1024x12 .f32) (x2 : Vec Ideal S32x32 .f32) (x3 : Vec Ideal S1x32 .f32)
  (x4 : Vec Ideal S32x32 .f32) (x5 : Vec Ideal S1x32 .f32) (x6 : Vec Ideal S35x64 .f32) (x7 : Vec Ideal S1x64 .f32)
  (x8 x9 x10 x11 : Vec Ideal S2x64x64 .f32) (x12 : Vec Ideal S2x4 .f32) (x13 : Vec Ideal S64x3 .f32) (x14 : Vec Ideal S1x3 .f32)

/-- The kernel's masks, biases and distances. -/
def kmasks : Masks where
  mDD := k0_pay149 x0 x1 x2 x3 x4 x5 x6 x7 x8 x9 x10 x11 x12 x13 x14
  eh := k0_pay144 x0 x1 x2 x3 x4 x5 x6 x7 x8 x9 x10 x11 x12 x13 x14
  et := k0_pay139 x0 x1 x2 x3 x4 x5 x6 x7 x8 x9 x10 x11 x12 x13 x14
  bm2 := k0_pay133 x0 x1 x2 x3 x4 x5 x6 x7 x8 x9 x10 x11 x12 x13 x14
  bm1 := k0_pay134 x0 x1 x2 x3 x4 x5 x6 x7 x8 x9 x10 x11 x12 x13 x14
  bp1 := k0_pay135 x0 x1 x2 x3 x4 x5 x6 x7 x8 x9 x10 x11 x12 x13 x14
  bp2 := k0_pay136 x0 x1 x2 x3 x4 x5 x6 x7 x8 x9 x10 x11 x12 x13 x14
  dm2 := k0_pay140 x0 x1 x2 x3 x4 x5 x6 x7 x8 x9 x10 x11 x12 x13 x14
  dm1 := k0_pay141 x0 x1 x2 x3 x4 x5 x6 x7 x8 x9 x10 x11 x12 x13 x14
  dp1 := k0_pay142 x0 x1 x2 x3 x4 x5 x6 x7 x8 x9 x10 x11 x12 x13 x14
  dp2 := k0_pay143 x0 x1 x2 x3 x4 x5 x6 x7 x8 x9 x10 x11 x12 x13 x14

/-- The kernel's features before the layers, after the first and after the second. -/
def kh0 : FVec Ideal S1024x256 .f32 := k0_pay127 x0 x1 x2 x3 x4 x5 x6 x7 x8 x9 x10 x11 x12 x13 x14
def kh1 : FVec Ideal S1024x256 .f32 := klayer (kmasks x0 x1 x2 x3 x4 x5 x6 x7 x8 x9 x10 x11 x12 x13 x14)
  (View.ld x8 r0_7) (View.ld x9 r0_7) (View.ld x10 r0_7) (View.ld x11 r0_7) (View.ld x12 r0_8) (kh0 x0 x1 x2 x3 x4 x5 x6 x7 x8 x9 x10 x11 x12 x13 x14)
def kh2 : FVec Ideal S1024x256 .f32 := klayer (kmasks x0 x1 x2 x3 x4 x5 x6 x7 x8 x9 x10 x11 x12 x13 x14)
  (View.ld x8 r0_9) (View.ld x9 r0_9) (View.ld x10 r0_9) (View.ld x11 r0_9) (View.ld x12 r0_10) (kh1 x0 x1 x2 x3 x4 x5 x6 x7 x8 x9 x10 x11 x12 x13 x14)

/-- The first layer's weighted sum, as the kernel names it. -/
theorem pay156_eq : k0_pay156 (F := Ideal) x0 x1 x2 x3 x4 x5 x6 x7 x8 x9 x10 x11 x12 x13 x14
    = attn (kmasks x0 x1 x2 x3 x4 x5 x6 x7 x8 x9 x10 x11 x12 x13 x14) (k0_pay81 (View.ld x12 r0_8))
      (proj (k0_pay149 x0 x1 x2 x3 x4 x5 x6 x7 x8 x9 x10 x11 x12 x13 x14) (k0_pay127 x0 x1 x2 x3 x4 x5 x6 x7 x8 x9 x10 x11 x12 x13 x14) (View.ld x8 r0_7))
      (proj (k0_pay149 x0 x1 x2 x3 x4 x5 x6 x7 x8 x9 x10 x11 x12 x13 x14) (k0_pay127 x0 x1 x2 x3 x4 x5 x6 x7 x8 x9 x10 x11 x12 x13 x14) (View.ld x9 r0_7))
      (proj (k0_pay149 x0 x1 x2 x3 x4 x5 x6 x7 x8 x9 x10 x11 x12 x13 x14) (k0_pay127 x0 x1 x2 x3 x4 x5 x6 x7 x8 x9 x10 x11 x12 x13 x14) (View.ld x10 r0_7)) := rfl

theorem kh1_eq : k0_pay99 (k0_pay127 x0 x1 x2 x3 x4 x5 x6 x7 x8 x9 x10 x11 x12 x13 x14)
    (k0_pay156 x0 x1 x2 x3 x4 x5 x6 x7 x8 x9 x10 x11 x12 x13 x14) (k0_pay157 x0 x1 x2 x3 x4 x5 x6 x7 x8 x9 x10 x11 x12 x13 x14)
    = kh1 x0 x1 x2 x3 x4 x5 x6 x7 x8 x9 x10 x11 x12 x13 x14 := rfl

end Cert.Proof
-- ==== Proof.Masks.lean ====
/- Masks: the kernel's masks and biases, each read at an index. -/
module
public import proofs.«01_k».proof.Proof.Words
public import proofs.«01_k».proof.Proof.Packed
public import proofs.«01_k».proof.Proof.Consts

@[expose] public section
noncomputable section
namespace Cert.Proof
open Idealize.ShloMosaic Cert.KernelIdeal Cert.KernelIdeal.Gen
set_option maxRecDepth 16384

variable (x0 : Vec Ideal S1x4 .f32) (x1 : Vec Ideal S1024x12 .f32) (x2 : Vec Ideal S32x32 .f32) (x3 : Vec Ideal S1x32 .f32)
  (x4 : Vec Ideal S32x32 .f32) (x5 : Vec Ideal S1x32 .f32) (x6 : Vec Ideal S35x64 .f32) (x7 : Vec Ideal S1x64 .f32)
  (x8 x9 x10 x11 : Vec Ideal S2x64x64 .f32) (x12 : Vec Ideal S2x4 .f32) (x13 : Vec Ideal S64x3 .f32) (x14 : Vec Ideal S1x3 .f32)

/-- The block mask of the square weights: one where the two lanes belong to one batch. -/
theorem mDD_at (b b' : Fin 4) (e d : Fin 64) :
    k0_pay149 (F := Ideal) x0 x1 x2 x3 x4 x5 x6 x7 x8 x9 x10 x11 x12 x13 x14 (ix2 (p256 b e) (p256 b' d)) = if b = b' then 1 else 0 := by
  pointwise [k0_pay149, k0_pay80, k0_pay145, k0_pay146, k0_pay147, k0_pay148, k0_pay76, k0_pay77, k0_pay78, k0_pay79]
  rw [fdiv_word (by omega) (by decide) (by decide), fdiv_word (by omega) (by decide) (by decide), pk_div, pk_div,
    eq_word (by omega) (by omega), mask_word]
  simp [Fin.ext_iff]

/-- The mask that sums the squares of a batch's coordinates. -/
theorem s3_at (b b' : Fin 4) (c : Fin 3) :
    k0_pay128 (F := Ideal) x0 x1 x2 x3 x4 x5 x6 x7 x8 x9 x10 x11 x12 x13 x14 (ix2 (p12 b c) b') = if b = b' then 1 else 0 := by
  pointwise [k0_pay128, k0_pay35]
  rw [fdiv_word (by omega) (by decide) (by decide), pk_div, eq_word (by omega) (by omega), mask_word]
  simp [Fin.ext_iff]

/-- The mask that sums the products of a head, scaled by a quarter. -/
theorem ehb_at (b b' : Fin 4) (d : Fin 64) (a : Fin 4) :
    k0_pay144 (F := Ideal) x0 x1 x2 x3 x4 x5 x6 x7 x8 x9 x10 x11 x12 x13 x14 (ix2 (p256 b d) (p16 b' a))
      = if b = b' ∧ (d : ℕ) / 16 = a then ((1 / 4 : ℝ) : EReal) else 0 := by
  pointwise [k0_pay144, k0_pay75, k0_pay58, k0_pay132,k0_pay54, k0_pay51,k0_pay52,k0_pay53,k0_pay55,k0_pay131,k0_pay56,k0_pay57]
  rw [fdiv_word (x := (p256 b d : ℕ)) (by omega) (by decide) (by decide), fdiv_word (x := (p16 b' a : ℕ)) (by omega) (by decide) (by decide),
    fmod_word (x := (p256 b d : ℕ)) (by omega) (by decide) (by decide), fmod_word (x := (p16 b' a : ℕ)) (by omega) (by decide) (by decide),
    pk_div, pk_div, pk_mod, pk_mod, fdiv_word (by omega) (by decide) (by decide), eq_word (by omega) (by omega),
    eq_word (by omega) (by omega), and_ofBool, mask_word, ofBits_quarter]
  by_cases h : b = b' ∧ (d : ℕ) / 16 = a
  · simp [h.1, h.2]
  · rw [if_neg h]
    rw [if_neg (by simpa [Fin.ext_iff] using h), zero_mul]

/-- The mask that spreads a head's weight over its features. -/
theorem ehT_at (b b' : Fin 4) (d : Fin 64) (a : Fin 4) :
    k0_pay139 (F := Ideal) x0 x1 x2 x3 x4 x5 x6 x7 x8 x9 x10 x11 x12 x13 x14 (ix2 (p16 b a) (p256 b' d))
      = if b' = b ∧ (d : ℕ) / 16 = a then 1 else 0 := by
  pointwise [k0_pay139, k0_pay69, k0_pay61, k0_pay137, k0_pay138, k0_pay59, k0_pay60, k0_pay64, k0_pay62, k0_pay63, k0_pay65, k0_pay66, k0_pay67, k0_pay68]
  rw [fdiv_word (x := (p256 b' d : ℕ)) (by omega) (by decide) (by decide), fdiv_word (x := (p16 b a : ℕ)) (by omega) (by decide) (by decide),
    fmod_word (x := (p256 b' d : ℕ)) (by omega) (by decide) (by decide), fmod_word (x := (p16 b a : ℕ)) (by omega) (by decide) (by decide),
    pk_div, pk_div, pk_mod, pk_mod, fdiv_word (by omega) (by decide) (by decide), eq_word (by omega) (by omega),
    eq_word (by omega) (by omega), and_ofBool, mask_word]
  simp [Fin.ext_iff]

theorem bias_m2 (n : Fin 1024) :
    k0_pay133 (F := Ideal) x0 x1 x2 x3 x4 x5 x6 x7 x8 x9 x10 x11 x12 x13 x14 (ix2 n 0) = if (n : ℕ) % 4 = 0 ∧ 2 ≤ (n : ℕ) then 0 else ⊥ := by
  pointwise [k0_pay133, k0_pay42, k0_pay47, k0_pay41]
  rw [fmod_word (by omega) (by decide) (by decide), eq_word (by omega) (by omega),
    WordCmp.cmpi_sge_ofNat (w := 32) (by omega) (by decide), and_ofBool, WordCmp.select_ofBool, named_mask]
  simp

theorem bias_m1 (n : Fin 1024) :
    k0_pay134 (F := Ideal) x0 x1 x2 x3 x4 x5 x6 x7 x8 x9 x10 x11 x12 x13 x14 (ix2 n 0) = if (n : ℕ) % 4 ≠ 0 then 0 else ⊥ := by
  pointwise [k0_pay134, k0_pay43, k0_pay48, k0_pay41]
  rw [fmod_word (by omega) (by decide) (by decide), WordCmp.cmpi_ne_ofNat (w := 32) (by omega) (by decide), WordCmp.select_ofBool, named_mask]
  simp

theorem bias_p1 (n : Fin 1024) :
    k0_pay135 (F := Ideal) x0 x1 x2 x3 x4 x5 x6 x7 x8 x9 x10 x11 x12 x13 x14 (ix2 n 0) = if (n : ℕ) % 4 ≠ 3 then 0 else ⊥ := by
  pointwise [k0_pay135, k0_pay44, k0_pay49, k0_pay41]
  rw [fmod_word (by omega) (by decide) (by decide), WordCmp.cmpi_ne_ofNat (w := 32) (by omega) (by decide), WordCmp.select_ofBool, named_mask]
  simp

theorem bias_p2 (n : Fin 1024) :
    k0_pay136 (F := Ideal) x0 x1 x2 x3 x4 x5 x6 x7 x8 x9 x10 x11 x12 x13 x14 (ix2 n 0) = if (n : ℕ) % 4 = 2 ∧ (n : ℕ) < 1022 then 0 else ⊥ := by
  pointwise [k0_pay136, k0_pay45, k0_pay46, k0_pay50, k0_pay41]
  rw [fmod_word (by omega) (by decide) (by decide), eq_word (by omega) (by omega),
    WordCmp.cmpi_slt_ofNat (w := 32) (by omega) (by decide), and_ofBool, WordCmp.select_ofBool, named_mask]
  simp

end Cert.Proof
-- ==== Proof.Band.lean ====
/- Band: a softmax over a row in which every entry but those of at most five columns is masked is the softmax over those
   five. The kernel takes the five logits; the reference takes the whole row, with −∞ off the mask. -/
module
public import Idealize.ShloMosaic.Lib.Pointwise

@[expose] public section
noncomputable section
namespace Cert.Proof
open Idealize.ShloMosaic
open scoped BigOperators

/-- The greatest of five logits, the five weights before normalization, their sum, and the weighted sum. -/
def amax (l : Fin 5 → EReal) : EReal := max (max (max (max (l 0) (l 1)) (l 2)) (l 3)) (l 4)
def awt (l : Fin 5 → EReal) (o : Fin 5) : EReal := Ideal.exp (l o - amax l)
def az (l : Fin 5 → EReal) : EReal := awt l 0 + awt l 1 + awt l 2 + awt l 3 + awt l 4
def asum (l v : Fin 5 → EReal) : EReal :=
  awt l 0 * Ideal.div 1 (az l) * v 0 + awt l 1 * Ideal.div 1 (az l) * v 1 + awt l 2 * Ideal.div 1 (az l) * v 2
    + awt l 3 * Ideal.div 1 (az l) * v 3 + awt l 4 * Ideal.div 1 (az l) * v 4

/-- A row's maximum, and the weighted sum over a row. -/
def rowmax {n : ℕ} (l : Fin n → EReal) : EReal := max ⊥ (Finset.univ.fold max ⊥ l)
def rowsum {n : ℕ} (l v : Fin n → EReal) : EReal :=
  ∑ j, Ideal.div (Ideal.exp (l j - rowmax l)) (∑ j', Ideal.exp (l j' - rowmax l)) * v j

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul]
  congr 1
  field_simp

theorem le_amax (l : Fin 5 → EReal) (o : Fin 5) : l o ≤ amax l := by
  unfold amax
  fin_cases o <;> simp

theorem amax_le (l : Fin 5 → EReal) (c : EReal) (h : ∀ o, l o ≤ c) : amax l ≤ c := by
  unfold amax
  simp [h]

/-- A masked sum over a row as a sum over the five columns. -/
theorem sum_band {α : Type} [AddCommMonoid α] {n : ℕ} (ok : Fin 5 → Prop) [DecidablePred ok] (nb : Fin 5 → Fin n) (M : Fin n → Prop) [DecidablePred M]
    (hM : ∀ j, M j ↔ ∃ o, ok o ∧ nb o = j) (inj : ∀ o o', ok o → ok o' → nb o = nb o' → o = o') (f : Fin n → α) :
    (∑ j, if M j then f j else 0) = ∑ o, if ok o then f (nb o) else 0 := by
  classical
  rw [← Finset.sum_filter, ← Finset.sum_filter]
  have h : (Finset.univ.filter M) = (Finset.univ.filter ok).image nb := by
    ext j
    simp only [Finset.mem_filter, Finset.mem_univ, true_and, Finset.mem_image, hM]
  rw [h, Finset.sum_image]
  intro o ho o' ho' e
  exact inj o o' (by simpa using ho) (by simpa using ho') e

theorem exp_masked (p : Prop) [Decidable p] (x m : ℝ) :
    Ideal.exp ((if p then (x : EReal) else ⊥) - (m : EReal)) = ((if p then Real.exp (x - m) else 0 : ℝ) : EReal) := by
  by_cases h : p
  · rw [if_pos h, if_pos h, ← EReal.coe_sub, Ideal.exp_coe]
  · rw [if_neg h, if_neg h, EReal.bot_sub, Ideal.exp_bot, EReal.coe_zero]

variable {n : ℕ} (ok : Fin 5 → Prop) [DecidablePred ok] (nb : Fin 5 → Fin n) (M : Fin n → Prop) [DecidablePred M]
  (hM : ∀ j, M j ↔ ∃ o, ok o ∧ nb o = j) (inj : ∀ o o', ok o → ok o' → nb o = nb o' → o = o') (h2 : ok 2)
  (L : Fin n → ℝ) (v : Fin n → EReal) (l u : Fin 5 → EReal) (l' : Fin n → EReal)
  (hl : ∀ o, l o = if ok o then (L (nb o) : EReal) else ⊥) (hu : ∀ o, ok o → u o = v (nb o))
  (hl' : ∀ j, l' j = if M j then (L j : EReal) else ⊥)

include hl h2 in
theorem amax_real : ∃ m : ℝ, amax l = (m : EReal) := by
  have h1 : amax l ≠ ⊥ := by
    have h := le_amax l 2
    rw [hl, if_pos h2] at h
    intro e
    rw [e] at h
    exact EReal.coe_ne_bot _ (le_bot_iff.1 h)
  have h3 : amax l ≠ ⊤ := by
    have hb : ∀ o, l o < ⊤ := fun o => by
      rw [hl]
      split_ifs
      · exact EReal.coe_lt_top _
      · exact bot_lt_top
    exact ne_of_lt (by unfold amax; simp [hb])
  lift amax l to ℝ using ⟨h3, h1⟩ with m
  exact ⟨m, rfl⟩

include hM hl hl' in
theorem rowmax_eq : rowmax l' = amax l := by
  unfold rowmax
  rw [max_eq_right bot_le]
  refine le_antisymm ?_ ?_
  · refine (Finset.fold_max_le _).2 ⟨bot_le, fun j _ => ?_⟩
    rw [hl']
    split_ifs with h
    · obtain ⟨o, ho, rfl⟩ := (hM j).1 h
      have h := le_amax l o
      rwa [hl, if_pos ho] at h
    · exact bot_le
  · refine amax_le _ _ fun o => ?_
    rw [hl]
    split_ifs with h
    · refine (Finset.le_fold_max _).2 (Or.inr ⟨nb o, Finset.mem_univ _, ?_⟩)
      rw [hl', if_pos ((hM _).2 ⟨o, h, rfl⟩)]
    · exact bot_le

include hM inj h2 hl hu hl' in
/-- The two weighted sums are the same, and real if what they weigh is. -/
theorem band : asum l u = rowsum l' v ∧ ((∀ j, ∃ r : ℝ, v j = (r : EReal)) → ∃ r : ℝ, rowsum l' v = (r : EReal)) := by
  obtain ⟨m, hm⟩ := amax_real ok nb h2 L l hl
  have hr := rowmax_eq ok nb M hM L l l' hl hl'
  set w : Fin 5 → ℝ := fun o => if ok o then Real.exp (L (nb o) - m) else 0 with hw
  have hwt : ∀ o, awt l o = (w o : EReal) := fun o => by
    unfold awt
    rw [hm, hl]
    exact exp_masked _ _ _
  have hz : az l = ((∑ o, w o : ℝ) : EReal) := by
    unfold az
    simp only [hwt, Fin.sum_univ_five, EReal.coe_add]
  have hw0 : ∀ o, 0 ≤ w o := fun o => by
    rw [hw]
    simp only
    split_ifs
    · exact (Real.exp_pos _).le
    · exact le_rfl
  have hzp : (∑ o, w o) ≠ 0 := by
    have h : 0 < w 2 := by
      rw [hw]
      simp only [h2, if_true]
      exact Real.exp_pos _
    exact ne_of_gt (lt_of_lt_of_le h (Finset.single_le_sum (fun o _ => hw0 o) (Finset.mem_univ 2)))
  have h1 : asum l u = ∑ o, if ok o then ((Real.exp (L (nb o) - m) / (∑ o, w o) : ℝ) : EReal) * v (nb o) else 0 := by
    have hterm : ∀ o, awt l o * Ideal.div 1 (az l) * u o
        = if ok o then ((Real.exp (L (nb o) - m) / (∑ o, w o) : ℝ) : EReal) * v (nb o) else 0 := fun o => by
      rw [hwt, hz, ← EReal.coe_one, div_real _ hzp, ← EReal.coe_mul, mul_one_div]
      by_cases h : ok o
      · have h0 : w o = Real.exp (L (nb o) - m) := by rw [hw]; simp only [h, if_true]
        rw [hu o h, if_pos h, h0]
      · have h0 : w o = 0 := by rw [hw]; simp only [h, if_false]
        rw [if_neg h, h0]
        simp
    unfold asum
    simp only [hterm, Fin.sum_univ_five]
  have h2 : rowsum l' v = ∑ o, if ok o then ((Real.exp (L (nb o) - m) / (∑ o, w o) : ℝ) : EReal) * v (nb o) else 0 := by
    unfold rowsum
    have hrow : ∀ j, Ideal.exp (l' j - rowmax l') = ((if M j then Real.exp (L j - m) else 0 : ℝ) : EReal) := fun j => by
      rw [hr, hm, hl']
      exact exp_masked _ _ _
    simp only [hrow]
    rw [← coe_sum, sum_band ok nb M hM inj]
    change ∑ j, Ideal.div _ ((∑ o, w o : ℝ) : EReal) * _ = _
    simp only [div_real _ hzp]
    have hi : ∀ j, (((if M j then Real.exp (L j - m) else 0) / (∑ o, w o) : ℝ) : EReal) * v j
        = if M j then ((Real.exp (L j - m) / (∑ o, w o) : ℝ) : EReal) * v j else 0 := fun j => by
      split_ifs
      · rfl
      · simp
    simp only [hi]
    exact sum_band ok nb M hM inj _
  refine ⟨h1.trans h2.symm, fun hv => ?_⟩
  choose r hr using hv
  refine ⟨∑ o, if ok o then Real.exp (L (nb o) - m) / (∑ o, w o) * r (nb o) else 0, ?_⟩
  rw [h2, coe_sum]
  refine Finset.sum_congr rfl fun o _ => ?_
  split_ifs
  · rw [hr, EReal.coe_mul]
  · rfl

end Cert.Proof
-- ==== Proof.LayerAt.lean ====
/- LayerAt: the parts of a layer, each read at one row and one packed lane. -/
module
public import proofs.«01_k».proof.Proof.Layer
public import proofs.«01_k».proof.Proof.Masks
public import proofs.«01_k».proof.Proof.Band

@[expose] public section
noncomputable section
namespace Cert.Proof
open Idealize.ShloMosaic Cert.KernelIdeal Cert.KernelIdeal.Gen
open scoped BigOperators
set_option maxRecDepth 16384

/-- What is known of the masks of a layer. -/
structure Masks.Good (M : Masks) : Prop where
  mDD : ∀ (b b' : Fin 4) (e d : Fin 64), M.mDD (ix2 (p256 b e) (p256 b' d)) = if b = b' then 1 else 0
  eh : ∀ (b b' : Fin 4) (d : Fin 64) (a : Fin 4),
    M.eh (ix2 (p256 b d) (p16 b' a)) = if b = b' ∧ (d : ℕ) / 16 = a then ((1 / 4 : ℝ) : EReal) else 0
  et : ∀ (b b' : Fin 4) (d : Fin 64) (a : Fin 4),
    M.et (ix2 (p16 b a) (p256 b' d)) = if b' = b ∧ (d : ℕ) / 16 = a then 1 else 0

/-- A square weight tiled four times each way, times the mask. -/
theorem tile_at (mk : FVec Ideal S256x256 .f32) (w : Vec Ideal S1x64x64 .f32) (r c : Fin 256) :
    k0_pay98 (F := Ideal) mk w (ix2 r c) = w (ix3 0 ⟨r % 64, by omega⟩ ⟨c % 64, by omega⟩) * mk (ix2 r c) := by
  pointwise [k0_pay98]
  congr 1
  split_ifs <;> exact congrArg w (congrArg₂ (ix3 0) (Fin.ext (by show _ = (r : ℕ) % 64; simp only; omega))
    (Fin.ext (by show _ = (c : ℕ) % 64; simp only; omega)))

/-- A square weight tiled and masked: the weight on the diagonal blocks, zero elsewhere. -/
theorem bd_at (mk : FVec Ideal S256x256 .f32) (hm : ∀ (b b' : Fin 4) (e d : Fin 64), mk (ix2 (p256 b e) (p256 b' d)) = if b = b' then 1 else 0)
    (w : Vec Ideal S1x64x64 .f32) (b b' : Fin 4) (e d : Fin 64) :
    k0_pay98 (F := Ideal) mk w (ix2 (p256 b e) (p256 b' d)) = if b = b' then w (ix3 0 e d) else 0 := by
  have h1 : (⟨(p256 b e : ℕ) % 64, by omega⟩ : Fin 64) = e := Fin.ext (pk_mod 256 rfl b e)
  have h2 : (⟨(p256 b' d : ℕ) % 64, by omega⟩ : Fin 64) = d := Fin.ext (pk_mod 256 rfl b' d)
  rw [tile_at, h1, h2, hm]
  by_cases h : b = b' <;> simp [h]

theorem bd_mul (mk : FVec Ideal S256x256 .f32) (hm : ∀ (b b' : Fin 4) (e d : Fin 64), mk (ix2 (p256 b e) (p256 b' d)) = if b = b' then 1 else 0)
    (w : Vec Ideal S1x64x64 .f32) (f : Fin 256 → EReal) (b : Fin 4) (d : Fin 64) :
    ∑ x : Fin 256, f x * k0_pay98 (F := Ideal) mk w (ix2 x (p256 b d)) = ∑ e : Fin 64, f (p256 b e) * w (ix3 0 e d) :=
  sum_block 256 rfl b _ _ (fun b' e hb => by rw [bd_at mk hm, if_neg hb, mul_zero])
    (fun e => by rw [bd_at mk hm, if_pos rfl])

theorem proj_at (mk : FVec Ideal S256x256 .f32) (hm : ∀ (b b' : Fin 4) (e d : Fin 64), mk (ix2 (p256 b e) (p256 b' d)) = if b = b' then 1 else 0)
    (h : FVec Ideal S1024x256 .f32) (w : Vec Ideal S1x64x64 .f32) (n : Fin 1024) (b : Fin 4) (d : Fin 64) :
    proj mk h w (ix2 n (p256 b d)) = ∑ e : Fin 64, h (ix2 n (p256 b e)) * w (ix3 0 e d) := by
  pointwise [proj]
  exact bd_mul mk hm w (fun x => h (ix2 n x)) b d

/-- The sum of the products of one head. -/
theorem head_sum (M : Masks) (hM : M.Good) (f : Fin 256 → EReal) (b : Fin 4) (a : Fin 4) :
    ∑ x : Fin 256, f x * M.eh (ix2 x (p16 b a)) = ∑ e : Fin 16, f (p256 b (p64 a e)) * ((1 / 4 : ℝ) : EReal) := by
  rw [sum_block 256 rfl b _ (fun d => f (p256 b d) * M.eh (ix2 (p256 b d) (p16 b a)))
    (fun b' e hb => by rw [hM.eh, if_neg (fun h => hb h.1), mul_zero]) (fun e => rfl)]
  refine sum_block 64 rfl a _ _ (fun a' e ha => ?_) (fun e => ?_)
  · rw [hM.eh, pk_div, if_neg (fun h => ha (Fin.ext h.2)), mul_zero]
  · rw [hM.eh, pk_div, if_pos ⟨rfl, rfl⟩]

/-- A head's weight at one of its features. -/
theorem spread_sum (M : Masks) (hM : M.Good) (f : Fin 16 → EReal) (b : Fin 4) (a : Fin 4) (e : Fin 16) :
    ∑ x : Fin 16, f x * M.et (ix2 x (p256 b (p64 a e))) = f (p16 b a) := by
  rw [Finset.sum_eq_single (p16 b a)]
  · rw [hM.et, pk_div, if_pos ⟨rfl, rfl⟩, mul_one]
  · intro x _ hx
    obtain ⟨b', a', rfl⟩ := exists_pk 16 (n := 4) (w := 4) rfl x
    rw [hM.et, pk_div, if_neg, mul_zero]
    rintro ⟨h1, h2⟩
    exact hx (by rw [h1, Fin.ext h2])
  · intro h
    exact absurd (Finset.mem_univ _) h

theorem logit_at (M : Masks) (hM : M.Good) (bias : FVec Ideal S1024x1 .f32) (dist : FVec Ideal S1024x16 .f32)
    (ds : FVec Ideal S1x16 .f32) (q ks : FVec Ideal S1024x256 .bf16) (n : Fin 1024) (b : Fin 4) (a : Fin 4) :
    k0_pay108 (F := Ideal) bias dist M.eh ds q ks (ix2 n (p16 b a))
      = (∑ e : Fin 16, q (ix2 n (p256 b (p64 a e))) * ks (ix2 n (p256 b (p64 a e))) * ((1 / 4 : ℝ) : EReal))
        - dist (ix2 n (p16 b a)) * ds (ix2 0 (p16 b a)) + bias (ix2 n 0) := by
  pointwise [k0_pay108]
  rw [head_sum M hM (fun x => q (ix2 n x) * ks (ix2 n x))]

theorem logit0_at (M : Masks) (hM : M.Good) (ds : FVec Ideal S1x16 .f32) (q k : FVec Ideal S1024x256 .bf16) (n : Fin 1024) (b : Fin 4) (a : Fin 4) :
    k0_pay90 (F := Ideal) M.eh ds q k (ix2 n (p16 b a))
      = (∑ e : Fin 16, q (ix2 n (p256 b (p64 a e))) * k (ix2 n (p256 b (p64 a e))) * ((1 / 4 : ℝ) : EReal))
        - ((Real.sqrt (11258999 / 1125899906842624) : ℝ) : EReal) * ds (ix2 0 (p16 b a)) := by
  pointwise [k0_pay90]
  rw [head_sum M hM (fun x => q (ix2 n x) * k (ix2 n x)), named_d_self]

theorem tile4_at (dr : Vec Ideal S1x4 .f32) (c : Fin 16) :
    k0_pay81 (F := Ideal) dr (ix2 0 c) = dr (ix2 0 ⟨c % 4, by omega⟩) := by
  pointwise [k0_pay81]
  split_ifs <;> exact congrArg dr (congrArg (ix2 0) (Fin.ext (by show _ = (c : ℕ) % 4; simp only; omega)))

theorem ds_at (dr : Vec Ideal S1x4 .f32) (b a : Fin 4) : k0_pay81 (F := Ideal) dr (ix2 0 (p16 b a)) = dr (ix2 0 a) := by
  rw [tile4_at]
  exact congrArg dr (congrArg (ix2 0) (Fin.ext (pk_mod 16 rfl b a)))

/-- The moved rows. -/
theorem down2_at (v : FVec Ideal S1024x256 .bf16) (n : Fin 1024) (c : Fin 256) :
    down2 v (ix2 n c) = if h : (n : ℕ) < 2 then 0 else v (ix2 ⟨n - 2, by omega⟩ c) := by
  pointwise [down2]
theorem down1_at (v : FVec Ideal S1024x256 .bf16) (n : Fin 1024) (c : Fin 256) :
    k0_pay88 (F := Ideal) v (ix2 n c) = if h : (n : ℕ) < 1 then 0 else v (ix2 ⟨n - 1, by omega⟩ c) := by
  pointwise [k0_pay88]
theorem up1_at (v : FVec Ideal S1024x256 .bf16) (n : Fin 1024) (c : Fin 256) :
    k0_pay91 (F := Ideal) v (ix2 n c) = if h : (n : ℕ) < 1023 then v (ix2 ⟨1 + n, by omega⟩ c) else 0 := by
  pointwise [k0_pay91]
theorem up2_at (v : FVec Ideal S1024x256 .bf16) (n : Fin 1024) (c : Fin 256) :
    k0_pay93 (F := Ideal) v (ix2 n c) = if h : (n : ℕ) < 1022 then v (ix2 ⟨2 + n, by omega⟩ c) else 0 := by
  pointwise [k0_pay93]

/-- The five logits of one row, batch and head. -/
def lgs (M : Masks) (ds : FVec Ideal S1x16 .f32) (q k : FVec Ideal S1024x256 .bf16) (n : Fin 1024) (b a : Fin 4) : Fin 5 → EReal :=
  ![lgm2 M ds q k (ix2 n (p16 b a)), lgm1 M ds q k (ix2 n (p16 b a)), lg0 M ds q k (ix2 n (p16 b a)),
    lgp1 M ds q k (ix2 n (p16 b a)), lgp2 M ds q k (ix2 n (p16 b a))]

/-- The values of the five neighbours of one row, at one lane. -/
def vals (v : FVec Ideal S1024x256 .bf16) (n : Fin 1024) (c : Fin 256) : Fin 5 → EReal :=
  ![down2 v (ix2 n c), k0_pay88 (F := Ideal) v (ix2 n c), v (ix2 n c), k0_pay91 (F := Ideal) v (ix2 n c), k0_pay93 (F := Ideal) v (ix2 n c)]

/-- The weighted sum of the neighbours' values. -/
theorem attn_at (M : Masks) (hM : M.Good) (ds : FVec Ideal S1x16 .f32) (q k v : FVec Ideal S1024x256 .bf16)
    (n : Fin 1024) (b a : Fin 4) (e : Fin 16) :
    attn M ds q k v (ix2 n (p256 b (p64 a e))) = asum (lgs M ds q k n b a) (vals v n (p256 b (p64 a e))) := by
  pointwise [attn, k0_pay97]
  simp only [spread_sum M hM]
  pointwise [lgmax]
  rfl

/-- The layer: the features, and what the weighted sums give through the output weights. -/
theorem klayer_at (M : Masks) (hM : M.Good) (wq wk wv wo : Vec Ideal S1x64x64 .f32) (dr : Vec Ideal S1x4 .f32)
    (h : FVec Ideal S1024x256 .f32) (n : Fin 1024) (b : Fin 4) (d : Fin 64) :
    klayer M wq wk wv wo dr h (ix2 n (p256 b d)) = h (ix2 n (p256 b d))
      + ∑ e : Fin 64, attn M (k0_pay81 dr) (proj M.mDD h wq) (proj M.mDD h wk) (proj M.mDD h wv) (ix2 n (p256 b e)) * wo (ix3 0 e d) := by
  pointwise [klayer, k0_pay99]
  rw [bd_mul M.mDD hM.mDD wo (fun x => attn M (k0_pay81 dr) (proj M.mDD h wq) (proj M.mDD h wk) (proj M.mDD h wv) (ix2 n x))]

end Cert.Proof
-- ==== Proof.RefLayer.lean ====
/- RefLayer: one attention layer of the reference as one function of the features, the distances, the mask and the
   layer's weights; the reference's two layers are this function. -/
module
public import proofs.«01_k».proof.Proof.Gen.ReferenceIdeal.Read
public import Idealize.ShloMosaic.Lib.Pointwise

@[expose] public section
noncomputable section
namespace Cert.Proof
open Idealize.ShloMosaic Cert.ReferenceIdeal Cert.ReferenceIdeal.Gen Cert.ReferenceIdeal.Read
set_option maxRecDepth 16384

/-- The features times a weight matrix, split into heads. -/
def rheads (h : FVec Ideal S4x1024x64 .f32) (w : FVec Ideal S64x64 .f32) : FVec Ideal S4x4x1024x16 .f32 :=
  transpose S4x4x1024x16 [0, 2, 1, 3] (shapeCast _ (Host.dotGeneral dot_S4x1024x64_S64x64_S4x1024x64_2_0_01_1_n_n none h w)
    shapeCasts_S4x1024x64_S4x1024x4x16) transposes_S4x1024x4x16_S4x4x1024x16_0_2_1_3

/-- The logits before the mask. -/
def rraw (dist : FVec Ideal S4x1024x1024 .f32) (ds : FVec Ideal S4 .f32) (q k : FVec Ideal S4x4x1024x16 .f32) :
    FVec Ideal S4x4x1024x1024 .f32 :=
  subf (Host.divf (Host.dotGeneral dot_S4x4x1024x16_S4x4x1024x16_S4x4x1024x1024_3_3_2_2_01_01 none q k) (val_main_v62 (F := Ideal)))
    (mulf (broadcastInDim S4x4x1024x1024 ![0, 1, 2, 3] bcast_S1x4x1x1_S4x4x1024x1024_0_1_2_3 (broadcastInDim S1x4x1x1 ![1] bcast_S4_S1x4x1x1_1 ds))
      (broadcastInDim S4x4x1024x1024 ![0, 1, 2, 3] bcast_S4x1x1024x1024_S4x4x1024x1024_0_1_2_3
        (broadcastInDim S4x1x1024x1024 ![0, 2, 3] bcast_S4x1024x1024_S4x1x1024x1024_0_2_3 dist)))

/-- The logits: the raw ones where the mask holds. -/
def rlog (mask : IVec S1024x1024 1) (raw : FVec Ideal S4x4x1024x1024 .f32) : FVec Ideal S4x4x1024x1024 .f32 :=
  select (broadcastInDim S4x4x1024x1024 ![0, 1, 2, 3] bcast_S1x1x1024x1024_S4x4x1024x1024_0_1_2_3
    (broadcastInDim S1x1x1024x1024 ![2, 3] bcast_S1024x1024_S1x1x1024x1024_2_3 mask)) raw (val_main_call1_v2 (F := Ideal))

/-- The greatest logit of a row. -/
def rmax (l : FVec Ideal S4x4x1024x1024 .f32) : FVec Ideal S4x4x1024 .f32 :=
  maximumf (val_main_v75 (F := Ideal)) (Host.reduce FloatOps.maximumf l (val_main_cst_5 (F := Ideal)) reducesTo_S4x4x1024x1024_S4x4x1024_d3 h_S_)

/-- The weights before normalization. -/
def rexp (l : FVec Ideal S4x4x1024x1024 .f32) (m : FVec Ideal S4x4x1024 .f32) : FVec Ideal S4x4x1024x1024 .f32 :=
  Host.exp (subf l (broadcastInDim S4x4x1024x1024 ![0, 1, 2, 3] bcast_S4x4x1024x1_S4x4x1024x1024_0_1_2_3
    (broadcastInDim S4x4x1024x1 ![0, 1, 2] bcast_S4x4x1024_S4x4x1024x1_0_1_2 m)))

/-- The weighted sum of the values, head by head. -/
def rmix (e : FVec Ideal S4x4x1024x1024 .f32) (v : FVec Ideal S4x4x1024x16 .f32) : FVec Ideal S4x4x1024x16 .f32 :=
  Host.dotGeneral dot_S4x4x1024x1024_S4x4x1024x16_S4x4x1024x16_3_2_2_3_01_01 none
    (Host.divf e (broadcastInDim S4x4x1024x1024 ![0, 1, 2, 3] bcast_S4x4x1024x1_S4x4x1024x1024_0_1_2_3
      (broadcastInDim S4x4x1024x1 ![0, 1, 2] bcast_S4x4x1024_S4x4x1024x1_0_1_2
        (Host.reduceAdd e (val_main_cst_7 (F := Ideal)) reducesTo_S4x4x1024x1024_S4x4x1024_d3 h_S_)))) v

/-- The heads side by side, through the output weights, onto the features. -/
def rout (h : FVec Ideal S4x1024x64 .f32) (o : FVec Ideal S4x4x1024x16 .f32) (wo : FVec Ideal S64x64 .f32) : FVec Ideal S4x1024x64 .f32 :=
  addf h (Host.dotGeneral dot_S4x1024x64_S64x64_S4x1024x64_2_0_01_1_n_n none
    (shapeCast _ (transpose S4x1024x4x16 [0, 2, 1, 3] o transposes_S4x4x1024x16_S4x1024x4x16_0_2_1_3) shapeCasts_S4x1024x4x16_S4x1024x64) wo)

/-- The logits of a layer. -/
def rlogits (dist : FVec Ideal S4x1024x1024 .f32) (mask : IVec S1024x1024 1) (wq wk : FVec Ideal S64x64 .f32) (ds : FVec Ideal S4 .f32)
    (h : FVec Ideal S4x1024x64 .f32) : FVec Ideal S4x4x1024x1024 .f32 :=
  rlog mask (rraw dist ds (rheads h wq) (rheads h wk))

/-- The layer. -/
def rlayer (dist : FVec Ideal S4x1024x1024 .f32) (mask : IVec S1024x1024 1) (wq wk wv wo : FVec Ideal S64x64 .f32) (ds : FVec Ideal S4 .f32)
    (h : FVec Ideal S4x1024x64 .f32) : FVec Ideal S4x1024x64 .f32 :=
  rout h (rmix (rexp (rlogits dist mask wq wk ds h) (rmax (rlogits dist mask wq wk ds h))) (rheads h wv)) wo

variable (x0 : FVec Ideal S4x1024x3 .f32) (x2 : FVec Ideal S4 .f32) (x3 : IVec S1024x1024 1)
  (x4 : FVec Ideal S32x32 .f32) (x5 : FVec Ideal S32 .f32) (x6 : FVec Ideal S32x32 .f32) (x7 : FVec Ideal S32 .f32)
  (x8 : FVec Ideal S35x64 .f32) (x9 : FVec Ideal S64 .f32)
  (x10 x11 x12 x13 : FVec Ideal S2x64x64 .f32) (x14 : FVec Ideal S2x4 .f32)

theorem ref_layer0 : val_main_v91 (F := Ideal) x0 x2 x3 x4 x5 x6 x7 x8 x9 x10 x11 x12 x13 x14
    = rlayer (val_main_v39 (F := Ideal) x0) (val_main_v45 (F := Ideal) x3) (val_main_v47 (F := Ideal) x10) (val_main_v52 (F := Ideal) x11)
      (val_main_v57 (F := Ideal) x12) (val_main_v89 (F := Ideal) x13) (val_main_v65 (F := Ideal) x14) (val_main_v29 (F := Ideal) x0 x2 x4 x5 x6 x7 x8 x9) := rfl

theorem ref_layer1 : val_main_v137 (F := Ideal) x0 x2 x3 x4 x5 x6 x7 x8 x9 x10 x11 x12 x13 x14
    = rlayer (val_main_v39 (F := Ideal) x0) (val_main_v45 (F := Ideal) x3) (val_main_v93 (F := Ideal) x10) (val_main_v98 (F := Ideal) x11)
      (val_main_v103 (F := Ideal) x12) (val_main_v135 (F := Ideal) x13) (val_main_v111 (F := Ideal) x14)
      (val_main_v91 (F := Ideal) x0 x2 x3 x4 x5 x6 x7 x8 x9 x10 x11 x12 x13 x14) := rfl

end Cert.Proof
-- ==== Proof.RefLayerAt.lean ====
/- RefLayerAt: the parts of a layer of the reference, each read at a batch, a head, a row and a column. -/
module
public import proofs.«01_k».proof.Proof.RefLayer
public import proofs.«01_k».proof.Proof.Packed
public import proofs.«01_k».proof.Proof.Consts

@[expose] public section
noncomputable section
namespace Cert.Proof
open Idealize.ShloMosaic Cert.ReferenceIdeal Cert.ReferenceIdeal.Gen Cert.ReferenceIdeal.Read
open scoped BigOperators
set_option maxRecDepth 16384

theorem rheads_at (h : FVec Ideal S4x1024x64 .f32) (w : FVec Ideal S64x64 .f32) (b a : Fin 4) (n : Fin 1024) (e : Fin 16) :
    rheads h w (ix4 b a n e) = ∑ x : Fin 64, h (ix3 b n x) * w (ix2 x (p64 a e)) := by
  have hp : ∀ q, (⟨(a : ℕ) * 16 + e, q⟩ : Fin 64) = p64 a e := fun q => Fin.ext (by rw [pk_val]; simp only; omega)
  pointwise [rheads]
  simp only [hp]

theorem rraw_at (dist : FVec Ideal S4x1024x1024 .f32) (ds : FVec Ideal S4 .f32) (q k : FVec Ideal S4x4x1024x16 .f32) (b a : Fin 4) (i j : Fin 1024) :
    rraw dist ds q k (ix4 b a i j) = Ideal.div (∑ e : Fin 16, q (ix4 b a i e) * k (ix4 b a j e)) ((4 : ℝ) : EReal) - ds (ix1 a) * dist (ix3 b i j) := by
  pointwise [rraw, val_main_v62, val_main_cst_3]
  rw [ofBits_four]

theorem rlog_at (mask : IVec S1024x1024 1) (raw : FVec Ideal S4x4x1024x1024 .f32) (b a : Fin 4) (i j : Fin 1024) :
    rlog mask raw (ix4 b a i j) = Scalar.select (mask (ix2 i j)) (raw (ix4 b a i j)) ⊥ := by
  pointwise [rlog, val_main_call1_v2, val_main_call1_v0, val_main_cst_4]
  exact congrArg _ ofBits_inf

/-- The maximum along the last axis. -/
theorem reduce_max {n0 n1 n2 n3 : ℕ} {u : Shape} (l : FVec Ideal ⟨4, ![n0, n1, n2, n3]⟩ .f32) (z : FVec Ideal u .f32)
    (h : (⟨4, ![n0, n1, n2, n3]⟩ : Shape).ReducesTo [3] ⟨3, ![n0, n1, n2]⟩) (hu : 0 < u.numel) (b : Fin n0) (a : Fin n1) (i : Fin n2) :
    Host.reduce FloatOps.maximumf l z h hu (ix3 b a i) = Finset.univ.fold max (z (Shape.Idx.first hu)) (fun k => l (ix4 b a i k)) := by
  pointwise []

theorem max_at {s : Shape} (x y : FVec Ideal s .f32) (j : s.Idx) : maximumf x y j = max (x j) (y j) := rfl

theorem rmax_at (l : FVec Ideal S4x4x1024x1024 .f32) (b a : Fin 4) (i : Fin 1024) :
    rmax l (ix3 b a i) = max ⊥ (Finset.univ.fold max ⊥ (fun k => l (ix4 b a i k))) := by
  have h0 : val_main_v75 (F := Ideal) (ix3 b a i) = ⊥ := by
    rw [val_main_v75_apply, val_main_cst_6_apply]
    exact ofBits_inf
  have h1 : val_main_cst_5 (F := Ideal) (Shape.Idx.first h_S_) = ⊥ := by
    rw [val_main_cst_5_apply]
    exact ofBits_inf
  have h2 := reduce_max (n0 := 4) (n1 := 4) (n2 := 1024) (n3 := 1024) l (val_main_cst_5 (F := Ideal)) reducesTo_S4x4x1024x1024_S4x4x1024_d3 h_S_ b a i
  rw [h1] at h2
  exact (max_at _ _ _).trans (congrArg₂ max h0 h2)

theorem rexp_at (l : FVec Ideal S4x4x1024x1024 .f32) (m : FVec Ideal S4x4x1024 .f32) (b a : Fin 4) (i j : Fin 1024) :
    rexp l m (ix4 b a i j) = Ideal.exp (l (ix4 b a i j) - m (ix3 b a i)) := by
  pointwise [rexp]

theorem rmix_at (l : FVec Ideal S4x4x1024x1024 .f32) (v : FVec Ideal S4x4x1024x16 .f32) (b a : Fin 4) (i : Fin 1024) (e : Fin 16) :
    rmix l v (ix4 b a i e) = ∑ j, Ideal.div (l (ix4 b a i j)) (∑ j', l (ix4 b a i j')) * v (ix4 b a j e) := by
  pointwise [rmix, val_main_cst_7]

theorem rout_at (h : FVec Ideal S4x1024x64 .f32) (o : FVec Ideal S4x4x1024x16 .f32) (wo : FVec Ideal S64x64 .f32) (b : Fin 4) (i : Fin 1024) (d : Fin 64) :
    rout h o wo (ix3 b i d) = h (ix3 b i d) + ∑ a : Fin 4, ∑ e : Fin 16, o (ix4 b a i e) * wo (ix2 (p64 a e) d) := by
  have key : rout h o wo (ix3 b i d) = h (ix3 b i d)
      + ∑ x : Fin 64, o (ix4 b ⟨x / 16, by omega⟩ i ⟨x % 16, by omega⟩) * wo (ix2 x d) := by
    pointwise [rout]
  rw [key, sum_pk 64 (n := 4) (w := 16) rfl]
  refine congrArg _ (Finset.sum_congr rfl fun a _ => Finset.sum_congr rfl fun e _ => ?_)
  have h1 : (⟨(p64 a e : ℕ) / 16, by omega⟩ : Fin 4) = a := Fin.ext (pk_div 64 rfl a e)
  have h2 : (⟨(p64 a e : ℕ) % 16, by omega⟩ : Fin 16) = e := Fin.ext (pk_mod 64 rfl a e)
  rw [h1, h2]

end Cert.Proof
-- ==== Proof.LayerEq.lean ====
/- LayerEq: on real features, logits' weights and distances a layer of the kernel and a layer of the reference give the same
   features, and real ones if the other weights are real. -/
module
public import proofs.«01_k».proof.Proof.LayerAt
public import proofs.«01_k».proof.Proof.RefLayerAt

@[expose] public section
noncomputable section
namespace Cert.Proof
open Idealize.ShloMosaic
open Cert.KernelIdeal (S1024x256 S1x64x64 S1x4 S1024x1 S1024x16 S256x16 S1x16)
open Cert.ReferenceIdeal (S4x1024x64 S64x64 S4 S4x1024x1024 S1024x1024)
open Cert.KernelIdeal.Gen (k0_pay81 k0_pay88 k0_pay90 k0_pay91 k0_pay93 k0_pay108)
open scoped BigOperators
set_option maxRecDepth 16384

/-- Which of the five atoms two before, one before, at, one after and two after row `n` it is bonded to (or is). -/
def okn (n : Fin 1024) : Fin 5 → Prop :=
  ![(n : ℕ) % 4 = 0 ∧ 2 ≤ (n : ℕ), ¬ (n : ℕ) % 4 = 0, True, ¬ (n : ℕ) % 4 = 3, (n : ℕ) % 4 = 2 ∧ (n : ℕ) < 1022]

/-- The five rows. -/
def nbn (n : Fin 1024) : Fin 5 → Fin 1024 :=
  ![⟨n - 2, by omega⟩, ⟨n - 1, by omega⟩, n, if h : (n : ℕ) < 1023 then ⟨1 + n, by omega⟩ else n,
    if h : (n : ℕ) < 1022 then ⟨2 + n, by omega⟩ else n]

theorem nbn_inj (n : Fin 1024) (o o' : Fin 5) (h : okn n o) (h' : okn n o') (e : nbn n o = nbn n o') : o = o' := by
  have e' := congrArg Fin.val e
  have hn := n.isLt
  fin_cases o <;> fin_cases o' <;> first
    | rfl
    | (exfalso
       simp [okn, nbn] at h h' e'
       try split_ifs at e'
       all_goals ((try simp only at e'); omega))

/-- What is known of the kernel's masks, biases and distances, `D b i j` being the distance of atoms `i` and `j`. -/
structure Masks.Real (M : Masks) (D : Fin 4 → Fin 1024 → Fin 1024 → ℝ) : Prop extends M.Good where
  bm2 : ∀ n, M.bm2 (ix2 n 0) = if (n : ℕ) % 4 = 0 ∧ 2 ≤ (n : ℕ) then 0 else ⊥
  bm1 : ∀ n, M.bm1 (ix2 n 0) = if ¬ (n : ℕ) % 4 = 0 then 0 else ⊥
  bp1 : ∀ n, M.bp1 (ix2 n 0) = if ¬ (n : ℕ) % 4 = 3 then 0 else ⊥
  bp2 : ∀ n, M.bp2 (ix2 n 0) = if (n : ℕ) % 4 = 2 ∧ (n : ℕ) < 1022 then 0 else ⊥
  dm2 : ∀ n b a, okn n 0 → M.dm2 (ix2 n (p16 b a)) = (D b n (nbn n 0) : EReal)
  dm1 : ∀ n b a, okn n 1 → M.dm1 (ix2 n (p16 b a)) = (D b n (nbn n 1) : EReal)
  dp1 : ∀ n b a, okn n 3 → M.dp1 (ix2 n (p16 b a)) = (D b n (nbn n 3) : EReal)
  dp2 : ∀ n b a, okn n 4 → M.dp2 (ix2 n (p16 b a)) = (D b n (nbn n 4) : EReal)
  self : ∀ b n, D b n n = Real.sqrt (11258999 / 1125899906842624)

/-- Features of each batch and atom; a projection of them; the logit of two atoms at a head. -/
abbrev Feat := Fin 4 → Fin 1024 → Fin 64 → ℝ
def fproj (h : Feat) (W : Fin 64 → Fin 64 → ℝ) : Feat := fun b n d => ∑ e, h b n e * W e d
def flog (D : Fin 4 → Fin 1024 → Fin 1024 → ℝ) (ds : Fin 4 → ℝ) (q k : Feat) (b a : Fin 4) (i j : Fin 1024) : ℝ :=
  (∑ e : Fin 16, q b i (p64 a e) * k b j (p64 a e) * (1 / 4)) - D b i j * ds a

theorem sum_mul_real {n : ℕ} (f g : Fin n → EReal) (f' g' : Fin n → ℝ) (hf : ∀ i, f i = (f' i : EReal)) (hg : ∀ i, g i = (g' i : EReal)) :
    ∑ i, f i * g i = ((∑ i, f' i * g' i : ℝ) : EReal) := by
  rw [coe_sum]
  exact Finset.sum_congr rfl fun i _ => by rw [hf, hg, EReal.coe_mul]

/-- One of the four neighbours' logits: real where the bond is there, −∞ elsewhere. -/
theorem logit_real (M : Masks) (hM : M.Good) (bias : FVec Ideal S1024x1 .f32) (dist : FVec Ideal S1024x16 .f32)
    (ds : FVec Ideal S1x16 .f32) (q ks : FVec Ideal S1024x256 .bf16) (n j : Fin 1024) (b a : Fin 4) (p : Prop) [Decidable p]
    (D : Fin 4 → Fin 1024 → Fin 1024 → ℝ) (dr : Fin 4 → ℝ) (qr kr : Feat)
    (hb : bias (ix2 n 0) = if p then 0 else ⊥) (hd : p → dist (ix2 n (p16 b a)) = (D b n j : EReal))
    (hs : ds (ix2 0 (p16 b a)) = (dr a : EReal)) (hq : ∀ d, q (ix2 n (p256 b d)) = (qr b n d : EReal))
    (hk : p → ∀ d, ks (ix2 n (p256 b d)) = (kr b j d : EReal)) :
    k0_pay108 (F := Ideal) bias dist M.eh ds q ks (ix2 n (p16 b a)) = if p then (flog D dr qr kr b a n j : EReal) else ⊥ := by
  rw [logit_at M hM, hb]
  by_cases h : p
  · rw [if_pos h, if_pos h, add_zero, hd h, hs]
    simp only [hq, hk h, ← EReal.coe_mul]
    rw [← coe_sum, ← EReal.coe_sub]
    rfl
  · rw [if_neg h, if_neg h, EReal.add_bot]

theorem logit0_real (M : Masks) (hM : M.Good) (ds : FVec Ideal S1x16 .f32) (q k : FVec Ideal S1024x256 .bf16) (n : Fin 1024) (b a : Fin 4)
    (D : Fin 4 → Fin 1024 → Fin 1024 → ℝ) (dr : Fin 4 → ℝ) (qr kr : Feat)
    (hd : D b n n = Real.sqrt (11258999 / 1125899906842624))
    (hs : ds (ix2 0 (p16 b a)) = (dr a : EReal)) (hq : ∀ d, q (ix2 n (p256 b d)) = (qr b n d : EReal))
    (hk : ∀ d, k (ix2 n (p256 b d)) = (kr b n d : EReal)) :
    k0_pay90 (F := Ideal) M.eh ds q k (ix2 n (p16 b a)) = (flog D dr qr kr b a n n : EReal) := by
  rw [logit0_at M hM, hs, ← hd]
  simp only [hq, hk, ← EReal.coe_mul]
  rw [← coe_sum, ← EReal.coe_sub]
  rfl

section moved
variable (v : FVec Ideal S1024x256 .bf16) (vr : Fin 4 → Fin 1024 → Fin 64 → EReal) (hv : ∀ n b d, v (ix2 n (p256 b d)) = vr b n d) (n : Fin 1024) (b : Fin 4)
include hv
theorem moved_m2 (h : okn n 0) (d : Fin 64) : down2 v (ix2 n (p256 b d)) = vr b (nbn n 0) d := by
  have h' : (n : ℕ) % 4 = 0 ∧ 2 ≤ (n : ℕ) := h
  rw [down2_at, dif_neg (by omega)]
  exact hv _ _ _
theorem moved_m1 (h : okn n 1) (d : Fin 64) : k0_pay88 (F := Ideal) v (ix2 n (p256 b d)) = vr b (nbn n 1) d := by
  have h' : ¬ (n : ℕ) % 4 = 0 := h
  rw [down1_at, dif_neg (by omega)]
  exact hv _ _ _
theorem moved_p1 (h : okn n 3) (d : Fin 64) : k0_pay91 (F := Ideal) v (ix2 n (p256 b d)) = vr b (nbn n 3) d := by
  have h' : ¬ (n : ℕ) % 4 = 3 := h
  have h1 : (n : ℕ) < 1023 := by omega
  have e : nbn n 3 = ⟨1 + n, by omega⟩ := dif_pos h1
  rw [up1_at, dif_pos h1, e]
  exact hv _ _ _
theorem moved_p2 (h : okn n 4) (d : Fin 64) : k0_pay93 (F := Ideal) v (ix2 n (p256 b d)) = vr b (nbn n 4) d := by
  have h' : (n : ℕ) % 4 = 2 ∧ (n : ℕ) < 1022 := h
  have e : nbn n 4 = ⟨2 + n, by omega⟩ := dif_pos h'.2
  rw [up2_at, dif_pos h'.2, e]
  exact hv _ _ _
end moved

open Classical in
/-- The five logits of the kernel. -/
theorem lgs_real (M : Masks) (D : Fin 4 → Fin 1024 → Fin 1024 → ℝ) (hM : M.Real D) (ds : FVec Ideal S1x16 .f32) (q k : FVec Ideal S1024x256 .bf16)
    (dr : Fin 4 → ℝ) (qr kr : Feat) (hs : ∀ b a, ds (ix2 0 (p16 b a)) = (dr a : EReal))
    (hq : ∀ n b d, q (ix2 n (p256 b d)) = (qr b n d : EReal)) (hk : ∀ n b d, k (ix2 n (p256 b d)) = (kr b n d : EReal))
    (n : Fin 1024) (b a : Fin 4) (o : Fin 5) :
    lgs M ds q k n b a o = if okn n o then (flog D dr qr kr b a n (nbn n o) : EReal) else ⊥ := by
  fin_cases o
  · exact logit_real M hM.toGood _ _ ds q _ n _ b a (okn n 0) D dr qr kr ((hM.bm2 n).trans (by congr)) (hM.dm2 n b a) (hs b a) (hq n b) (moved_m2 k (fun b n d => (kr b n d : EReal)) hk n b)
  · exact logit_real M hM.toGood _ _ ds q _ n _ b a (okn n 1) D dr qr kr ((hM.bm1 n).trans (by congr)) (hM.dm1 n b a) (hs b a) (hq n b) (moved_m1 k (fun b n d => (kr b n d : EReal)) hk n b)
  · exact (logit0_real M hM.toGood ds q k n b a D dr qr kr (hM.self b n) (hs b a) (hq n b) (hk n b)).trans (if_pos trivial).symm
  · exact logit_real M hM.toGood _ _ ds q _ n _ b a (okn n 3) D dr qr kr ((hM.bp1 n).trans (by congr)) (hM.dp1 n b a) (hs b a) (hq n b) (moved_p1 k (fun b n d => (kr b n d : EReal)) hk n b)
  · exact logit_real M hM.toGood _ _ ds q _ n _ b a (okn n 4) D dr qr kr ((hM.bp2 n).trans (by congr)) (hM.dp2 n b a) (hs b a) (hq n b) (moved_p2 k (fun b n d => (kr b n d : EReal)) hk n b)

/-- The five values of the kernel. -/
theorem vals_at (v : FVec Ideal S1024x256 .bf16) (vr : Fin 4 → Fin 1024 → Fin 64 → EReal) (hv : ∀ n b d, v (ix2 n (p256 b d)) = vr b n d)
    (n : Fin 1024) (b : Fin 4) (d : Fin 64) (o : Fin 5) (h : okn n o) : vals v n (p256 b d) o = vr b (nbn n o) d := by
  fin_cases o
  · exact moved_m2 v vr hv n b h d
  · exact moved_m1 v vr hv n b h d
  · exact hv n b d
  · exact moved_p1 v vr hv n b h d
  · exact moved_p2 v vr hv n b h d

open Classical in
/-- A row of the reference's logits. -/
theorem rlog_real (dist : FVec Ideal S4x1024x1024 .f32) (mask : IVec S1024x1024 1) (ds : FVec Ideal S4 .f32)
    (q k : FVec Ideal Cert.ReferenceIdeal.S4x4x1024x16 .f32) (D : Fin 4 → Fin 1024 → Fin 1024 → ℝ) (dr : Fin 4 → ℝ) (qr kr : Feat)
    (hD : ∀ b i j, dist (ix3 b i j) = (D b i j : EReal)) (hm : ∀ i j, mask (ix2 i j) = 1#1 ↔ ∃ o, okn i o ∧ nbn i o = j)
    (hs : ∀ a, ds (ix1 a) = (dr a : EReal)) (hq : ∀ b a n e, q (ix4 b a n e) = (qr b n (p64 a e) : EReal))
    (hk : ∀ b a n e, k (ix4 b a n e) = (kr b n (p64 a e) : EReal)) (b a : Fin 4) (i j : Fin 1024) :
    rlog mask (rraw dist ds q k) (ix4 b a i j) = if (∃ o, okn i o ∧ nbn i o = j) then (flog D dr qr kr b a i j : EReal) else ⊥ := by
  rw [rlog_at]
  by_cases h : ∃ o, okn i o ∧ nbn i o = j
  · rw [if_pos h, (hm i j).2 h]
    show rraw dist ds q k (ix4 b a i j) = _
    rw [rraw_at, sum_mul_real _ _ _ _ (hq b a i) (hk b a j), div_real _ (by norm_num), hs, hD, ← EReal.coe_mul, ← EReal.coe_sub]
    unfold flog
    rw [div_eq_mul_one_div, Finset.sum_mul, mul_comm (dr a)]
  · rw [if_neg h]
    have h0 : mask (ix2 i j) = 0#1 := by
      have := fun e => h ((hm i j).1 e)
      generalize mask (ix2 i j) = c at this
      revert this
      revert c
      decide
    rw [h0]
    rfl

/-- A layer of the kernel and the same layer of the reference. -/
theorem layer_eq (M : Masks) (D : Fin 4 → Fin 1024 → Fin 1024 → ℝ) (hM : M.Real D) (dist : FVec Ideal S4x1024x1024 .f32) (mask : IVec S1024x1024 1)
    (hD : ∀ b i j, dist (ix3 b i j) = (D b i j : EReal)) (hm : ∀ i j, mask (ix2 i j) = 1#1 ↔ ∃ o, okn i o ∧ nbn i o = j)
    (wq wk wv wo : Vec Ideal S1x64x64 .f32) (dr : Vec Ideal S1x4 .f32) (wq' wk' wv' wo' : FVec Ideal S64x64 .f32) (dr' : FVec Ideal S4 .f32)
    (Wq Wk : Fin 64 → Fin 64 → ℝ) (ds : Fin 4 → ℝ)
    (hq : ∀ e d, wq (ix3 0 e d) = (Wq e d : EReal)) (hk : ∀ e d, wk (ix3 0 e d) = (Wk e d : EReal))
    (hv : ∀ e d, wv (ix3 0 e d) = wv' (ix2 e d)) (ho : ∀ e d, wo (ix3 0 e d) = wo' (ix2 e d)) (hs : ∀ a, dr (ix2 0 a) = (ds a : EReal))
    (hq' : ∀ e d, wq' (ix2 e d) = (Wq e d : EReal)) (hk' : ∀ e d, wk' (ix2 e d) = (Wk e d : EReal)) (hs' : ∀ a, dr' (ix1 a) = (ds a : EReal))
    (h : FVec Ideal S1024x256 .f32) (h' : FVec Ideal S4x1024x64 .f32) (f : Feat)
    (hf : ∀ n b d, h (ix2 n (p256 b d)) = (f b n d : EReal)) (hf' : ∀ b n d, h' (ix3 b n d) = (f b n d : EReal)) :
    (∀ n b d, klayer M wq wk wv wo dr h (ix2 n (p256 b d)) = rlayer dist mask wq' wk' wv' wo' dr' h' (ix3 b n d))
      ∧ ((∀ e d, ∃ r : ℝ, wv' (ix2 e d) = (r : EReal)) → (∀ e d, ∃ r : ℝ, wo' (ix2 e d) = (r : EReal)) →
        ∃ g : Feat, ∀ b n d, rlayer dist mask wq' wk' wv' wo' dr' h' (ix3 b n d) = (g b n d : EReal)) := by
  classical
  have kp : ∀ (w : Vec Ideal S1x64x64 .f32) (W : Fin 64 → Fin 64 → ℝ), (∀ e d, w (ix3 0 e d) = (W e d : EReal)) →
      ∀ n b d, proj M.mDD h w (ix2 n (p256 b d)) = (fproj f W b n d : EReal) := fun w W hw n b d => by
    rw [proj_at _ hM.mDD]
    exact sum_mul_real _ _ _ _ (hf n b) (fun e => hw e d)
  have rp : ∀ (w : FVec Ideal S64x64 .f32) (W : Fin 64 → Fin 64 → ℝ), (∀ e d, w (ix2 e d) = (W e d : EReal)) →
      ∀ b a n e, rheads h' w (ix4 b a n e) = (fproj f W b n (p64 a e) : EReal) := fun w W hw b a n e => by
    rw [rheads_at]
    exact sum_mul_real _ _ _ _ (hf' b n) (fun x => hw x _)
  have kv : ∀ n b d, proj M.mDD h wv (ix2 n (p256 b d)) = ∑ e, (f b n e : EReal) * wv' (ix2 e d) := fun n b d => by
    rw [proj_at _ hM.mDD]
    exact Finset.sum_congr rfl fun e _ => by rw [hf, hv]
  have rv : ∀ b a n e, rheads h' wv' (ix4 b a n e) = ∑ x, (f b n x : EReal) * wv' (ix2 x (p64 a e)) := fun b a n e => by
    rw [rheads_at]
    exact Finset.sum_congr rfl fun x _ => by rw [hf']
  have hb : ∀ b a n e,
      attn M (k0_pay81 dr) (proj M.mDD h wq) (proj M.mDD h wk) (proj M.mDD h wv) (ix2 n (p256 b (p64 a e)))
        = rmix (rexp (rlogits dist mask wq' wk' dr' h') (rmax (rlogits dist mask wq' wk' dr' h'))) (rheads h' wv') (ix4 b a n e)
      ∧ ((∀ e d, ∃ r : ℝ, wv' (ix2 e d) = (r : EReal)) → ∃ r : ℝ,
        rmix (rexp (rlogits dist mask wq' wk' dr' h') (rmax (rlogits dist mask wq' wk' dr' h'))) (rheads h' wv') (ix4 b a n e) = (r : EReal)) := by
    intro b a n e
    obtain ⟨h1, h2⟩ := band (okn n) (nbn n) (fun j => ∃ o, okn n o ∧ nbn n o = j) (fun j => Iff.rfl) (nbn_inj n) trivial
      (fun j => flog D ds (fproj f Wq) (fproj f Wk) b a n j) (fun j => ∑ x, (f b j x : EReal) * wv' (ix2 x (p64 a e)))
      (lgs M (k0_pay81 dr) (proj M.mDD h wq) (proj M.mDD h wk) n b a) (vals (proj M.mDD h wv) n (p256 b (p64 a e)))
      (fun j => rlogits dist mask wq' wk' dr' h' (ix4 b a n j))
      (lgs_real M D hM _ _ _ ds _ _ (fun b a => (ds_at dr b a).trans (hs a)) (kp wq Wq hq) (kp wk Wk hk) n b a)
      (fun o ho => vals_at _ (fun b n d => ∑ x, (f b n x : EReal) * wv' (ix2 x d)) kv n b (p64 a e) o ho)
      (fun j => rlog_real dist mask dr' _ _ D ds _ _ hD hm hs' (rp wq' Wq hq') (rp wk' Wk hk') b a n j)
    have h3 : rmix (rexp (rlogits dist mask wq' wk' dr' h') (rmax (rlogits dist mask wq' wk' dr' h'))) (rheads h' wv') (ix4 b a n e)
        = rowsum (fun j => rlogits dist mask wq' wk' dr' h' (ix4 b a n j)) fun j => ∑ x, (f b j x : EReal) * wv' (ix2 x (p64 a e)) := by
      rw [rmix_at]
      simp only [rexp_at, rmax_at, rv]
      rfl
    rw [h3]
    refine ⟨(attn_at M hM.toGood _ _ _ _ n b a e).trans h1, fun hw => h2 fun j => ?_⟩
    choose r hr using hw
    exact ⟨_, sum_mul_real _ _ (fun x => f b j x) (fun x => r x (p64 a e)) (fun _ => rfl) fun x => hr x _⟩
  refine ⟨fun n b d => ?_, fun hw hu => ?_⟩
  · unfold rlayer
    rw [klayer_at M hM.toGood, hf, sum_pk 64 (n := 4) (w := 16) rfl, rout_at, hf']
    refine congrArg _ (Finset.sum_congr rfl fun a _ => Finset.sum_congr rfl fun e _ => ?_)
    rw [(hb b a n e).1, ho]
  · choose r hr using fun b a n e => (hb b a n e).2 hw
    choose Wo hWo using hu
    refine ⟨fun b n d => f b n d + ∑ a, ∑ e, r b a n e * Wo (p64 a e) d, fun b n d => ?_⟩
    unfold rlayer
    rw [rout_at, hf', EReal.coe_add, coe_sum]
    refine congrArg _ (Finset.sum_congr rfl fun a _ => ?_)
    exact sum_mul_real _ _ _ _ (fun e => hr b a n e) (fun e => hWo _ d)

end Cert.Proof
-- ==== Proof.Loads.lean ====
/- Loads: what the kernel's loads hold at an index. -/
module
public import proofs.«01_k».proof.Proof.Gen.KernelIdeal.Frame
public import Idealize.ShloMosaic.Lib.Pointwise
public import Idealize.ShloMosaic.Lib.Pipeline.ValueKit

@[expose] public section
noncomputable section
namespace Cert.Proof
open Idealize.ShloMosaic Cert.KernelIdeal Cert.KernelIdeal.Gen

/-- The coordinates of an index of rank two, one by one. -/
theorem all2 {p : Fin 2 → Prop} (h0 : p 0) (h1 : p 1) : ∀ a, p a
  | ⟨0, _⟩ => h0
  | ⟨1, _⟩ => h1

theorem all3 {p : Fin 3 → Prop} (h0 : p 0) (h1 : p 1) (h2 : p 2) : ∀ a, p a
  | ⟨0, _⟩ => h0
  | ⟨1, _⟩ => h1
  | ⟨2, _⟩ => h2

theorem ld_r0_0 (X : Vec Ideal S1x4 .f32) (b : Fin 4) : View.ld X r0_0 (ix2 0 b) = X (ix2 0 b) :=
  View.ld_unit_apply_of X _ _ _ _ _ (all2 rfl (Nat.zero_add _).symm)
theorem ld_r0_1 (X : Vec Ideal S32x32 .f32) (e d : Fin 32) : View.ld X r0_1 (ix2 e d) = X (ix2 e d) :=
  View.ld_unit_apply_of X _ _ _ _ _ (all2 (Nat.zero_add _).symm (Nat.zero_add _).symm)
theorem ld_r0_2 (X : Vec Ideal S1x32 .f32) (d : Fin 32) : View.ld X r0_2 (ix2 0 d) = X (ix2 0 d) :=
  View.ld_unit_apply_of X _ _ _ _ _ (all2 rfl (Nat.zero_add _).symm)
theorem ld_r0_3 (X : Vec Ideal S1024x12 .f32) (n : Fin 1024) (c : Fin 12) : View.ld X r0_3 (ix2 n c) = X (ix2 n c) :=
  View.ld_unit_apply_of X _ _ _ _ _ (all2 (Nat.zero_add _).symm (Nat.zero_add _).symm)
theorem ld_r0_4 (X : Vec Ideal S35x64 .f32) (e : Fin 32) (d : Fin 64) : View.ld X r0_4 (ix2 e d) = X (ix2 ⟨e, by omega⟩ d) :=
  View.ld_unit_apply_of X _ _ _ _ _ (all2 (Nat.zero_add _).symm (Nat.zero_add _).symm)
theorem ld_r0_5 (X : Vec Ideal S35x64 .f32) (e : Fin 3) (d : Fin 64) : View.ld X r0_5 (ix2 e d) = X (ix2 ⟨32 + e, by omega⟩ d) :=
  View.ld_unit_apply_of X _ _ _ _ _ (all2 rfl (Nat.zero_add _).symm)
theorem ld_r0_6 (X : Vec Ideal S1x64 .f32) (d : Fin 64) : View.ld X r0_6 (ix2 0 d) = X (ix2 0 d) :=
  View.ld_unit_apply_of X _ _ _ _ _ (all2 rfl (Nat.zero_add _).symm)
theorem ld_r0_7 (X : Vec Ideal S2x64x64 .f32) (e d : Fin 64) : View.ld X r0_7 (ix3 0 e d) = X (ix3 0 e d) :=
  View.ld_unit_apply_of X _ _ _ _ _ (all3 rfl (Nat.zero_add _).symm (Nat.zero_add _).symm)
theorem ld_r0_8 (X : Vec Ideal S2x4 .f32) (a : Fin 4) : View.ld X r0_8 (ix2 0 a) = X (ix2 0 a) :=
  View.ld_unit_apply_of X _ _ _ _ _ (all2 rfl (Nat.zero_add _).symm)
theorem ld_r0_9 (X : Vec Ideal S2x64x64 .f32) (e d : Fin 64) : View.ld X r0_9 (ix3 0 e d) = X (ix3 1 e d) :=
  View.ld_unit_apply_of X _ _ _ _ _ (all3 rfl (Nat.zero_add _).symm (Nat.zero_add _).symm)
theorem ld_r0_10 (X : Vec Ideal S2x4 .f32) (a : Fin 4) : View.ld X r0_10 (ix2 0 a) = X (ix2 1 a) :=
  View.ld_unit_apply_of X _ _ _ _ _ (all2 rfl (Nat.zero_add _).symm)
theorem ld_r0_11 (X : Vec Ideal S64x3 .f32) (e : Fin 64) (c : Fin 3) : View.ld X r0_11 (ix2 e c) = X (ix2 e c) :=
  View.ld_unit_apply_of X _ _ _ _ _ (all2 (Nat.zero_add _).symm (Nat.zero_add _).symm)
theorem ld_r0_12 (X : Vec Ideal S1x3 .f32) (c : Fin 3) : View.ld X r0_12 (ix2 0 c) = X (ix2 0 c) :=
  View.ld_unit_apply_of X _ _ _ _ _ (all2 rfl (Nat.zero_add _).symm)

end Cert.Proof
-- ==== Proof.Head.lean ====
/- Head: the first features of kernel and reference are the same real numbers. -/
module
public import proofs.«01_k».proof.Proof.KHead
public import proofs.«01_k».proof.Proof.RefHead
public import proofs.«01_k».proof.Proof.LayerEq
public import proofs.«01_k».proof.Proof.Loads

@[expose] public section
noncomputable section
namespace Cert.Proof
open Idealize.ShloMosaic
open scoped BigOperators
set_option maxRecDepth 16384

/-- The embedding of a time with a given rate. -/
def remb (rate : ℝ) (T : Fin 4 → ℝ) (b : Fin 4) (d : Fin 32) : ℝ :=
  if (d : ℕ) < 16 then Real.sin (T b * Real.exp (rate * ((d : ℕ) : ℝ))) else Real.cos (T b * Real.exp (rate * (((d : ℕ) - 16 : ℕ) : ℝ)))

def fdense (v : Fin 4 → Fin 32 → ℝ) (W : Fin 32 → Fin 32 → ℝ) (B : Fin 32 → ℝ) (b : Fin 4) (d : Fin 32) : ℝ := (∑ e, v b e * W e d) + B d

def fsilu (v : Fin 4 → Fin 32 → ℝ) (b : Fin 4) (d : Fin 32) : ℝ := v b d * (1 + Real.exp (-v b d))⁻¹

def ffeats (v : Fin 4 → Fin 32 → ℝ) (X : Fin 4 → Fin 1024 → Fin 3 → ℝ) (W : Fin 35 → Fin 64 → ℝ) (B : Fin 64 → ℝ) : Feat :=
  fun b n d => (∑ e : Fin 32, v b e * W ⟨e, by omega⟩ d) + (∑ e : Fin 3, X b n e * W ⟨32 + e, by omega⟩ d) + B d

theorem dense_real {s w : Fin 32 → EReal} {c : EReal} {v : Fin 4 → Fin 32 → ℝ} {W : Fin 32 → Fin 32 → ℝ} {B : Fin 32 → ℝ} {b : Fin 4} {d : Fin 32}
    (hs : ∀ e, s e = (v b e : EReal)) (hw : ∀ e, w e = (W e d : EReal)) (hc : c = (B d : EReal)) :
    (∑ e, s e * w e) + c = (fdense v W B b d : EReal) := by
  rw [sum_mul_real s w _ _ hs hw, hc, ← EReal.coe_add]
  rfl

theorem feats_real {s w : Fin 32 → EReal} {x y : Fin 3 → EReal} {c : EReal} {v : Fin 4 → Fin 32 → ℝ} {X : Fin 4 → Fin 1024 → Fin 3 → ℝ}
    {W : Fin 35 → Fin 64 → ℝ} {B : Fin 64 → ℝ} {b : Fin 4} {n : Fin 1024} {d : Fin 64}
    (hs : ∀ e, s e = (v b e : EReal)) (hw : ∀ e : Fin 32, w e = (W ⟨e, by omega⟩ d : EReal)) (hx : ∀ e, x e = (X b n e : EReal))
    (hy : ∀ e : Fin 3, y e = (W ⟨32 + e, by omega⟩ d : EReal)) (hc : c = (B d : EReal)) :
    (∑ e, s e * w e) + (∑ e, x e * y e) + c = (ffeats v X W B b n d : EReal) := by
  rw [sum_mul_real s w _ _ hs hw, sum_mul_real x y _ _ hx hy, hc, ← EReal.coe_add, ← EReal.coe_add]
  rfl

theorem silu_real {z : EReal} {v : Fin 4 → Fin 32 → ℝ} {b : Fin 4} {d : Fin 32} (h : z = (v b d : EReal)) :
    z * Ideal.logistic z = (fsilu v b d : EReal) := by
  rw [h, Ideal.logistic_coe, ← EReal.coe_mul]
  rfl

section
variable (T : Fin 4 → ℝ) (X : Fin 4 → Fin 1024 → Fin 3 → ℝ) (W1 W2 : Fin 32 → Fin 32 → ℝ) (B1 B2 : Fin 32 → ℝ) (Wi : Fin 35 → Fin 64 → ℝ) (Bi : Fin 64 → ℝ)

/-- The first features as real numbers. -/
def f0 (rate : ℝ) : Feat := ffeats (fdense (fsilu (fdense (remb rate T) W1 B1)) W2 B2) X Wi Bi

/-- The reference's first features. -/
theorem rf0 {rate : ℝ} (hr : Ideal.ofBits .f32 0xC1135D8E#32 = ((16 * rate : ℝ) : EReal))
    (x0 : FVec Ideal Cert.ReferenceIdeal.S4x1024x3 .f32) (x2 : FVec Ideal Cert.ReferenceIdeal.S4 .f32) (x4 : FVec Ideal Cert.ReferenceIdeal.S32x32 .f32) (x5 : FVec Ideal Cert.ReferenceIdeal.S32 .f32)
    (x6 : FVec Ideal Cert.ReferenceIdeal.S32x32 .f32) (x7 : FVec Ideal Cert.ReferenceIdeal.S32 .f32) (x8 : FVec Ideal Cert.ReferenceIdeal.S35x64 .f32) (x9 : FVec Ideal Cert.ReferenceIdeal.S64 .f32)
    (h0 : ∀ b n c, x0 (ix3 b n c) = (X b n c : EReal)) (h2 : ∀ b, x2 (ix1 b) = (T b : EReal)) (h4 : ∀ e d, x4 (ix2 e d) = (W1 e d : EReal)) (h5 : ∀ d, x5 (ix1 d) = (B1 d : EReal))
    (h6 : ∀ e d, x6 (ix2 e d) = (W2 e d : EReal)) (h7 : ∀ d, x7 (ix1 d) = (B2 d : EReal)) (h8 : ∀ e d, x8 (ix2 e d) = (Wi e d : EReal)) (h9 : ∀ d, x9 (ix1 d) = (Bi d : EReal))
    (b : Fin 4) (n : Fin 1024) (d : Fin 64) :
    Cert.ReferenceIdeal.Read.val_main_v29 (F := Ideal) x0 x2 x4 x5 x6 x7 x8 x9 (ix3 b n d) = (f0 T X W1 W2 B1 B2 Wi Bi rate b n d : EReal) := by
  rw [rfeats_at]
  refine feats_real (fun e => ?_) (fun e => h8 _ _) (fun e => h0 _ _ _) (fun e => h8 _ _) (h9 _)
  rw [rdense2_at]
  refine dense_real (fun e => ?_) (fun e => h6 _ _) (h7 _)
  rw [rsilu_at]
  refine silu_real ?_
  rw [rdense1_at]
  refine dense_real (fun e => ?_) (fun e => h4 _ _) (h5 _)
  have ha : ∀ f : Fin 16, Cert.ReferenceIdeal.Read.val_main_v10 (F := Ideal) x2 (ix2 b f) = ((T b * Real.exp (rate * ((f : ℕ) : ℝ)) : ℝ) : EReal) := fun f => by
    rw [rangle_at, h2, hr, ← EReal.coe_mul, div_real _ (by norm_num), Ideal.exp_coe, ← EReal.coe_mul]
    congr 4
    ring
  rw [remb_at]
  unfold remb
  by_cases h : (e : ℕ) < 16
  · rw [dif_pos h, if_pos h, ha, Ideal.sin_coe]
  · rw [dif_neg h, if_neg h, ha, Ideal.cos_coe]

open Cert.KernelIdeal Cert.KernelIdeal.Gen in
/-- The kernel's first features. -/
theorem kf0 {rate : ℝ} (hr : Ideal.ofBits .f32 0xBF135D8E#32 = ((rate : ℝ) : EReal))
    (x0 : Vec Ideal S1x4 .f32) (x1 : Vec Ideal S1024x12 .f32) (x2 : Vec Ideal S32x32 .f32) (x3 : Vec Ideal S1x32 .f32)
    (x4 : Vec Ideal S32x32 .f32) (x5 : Vec Ideal S1x32 .f32) (x6 : Vec Ideal S35x64 .f32) (x7 : Vec Ideal S1x64 .f32)
    (x8 x9 x10 x11 : Vec Ideal S2x64x64 .f32) (x12 : Vec Ideal S2x4 .f32) (x13 : Vec Ideal S64x3 .f32) (x14 : Vec Ideal S1x3 .f32)
    (h0 : ∀ b n c, x1 (ix2 n (p12 b c)) = (X b n c : EReal)) (h2 : ∀ b, x0 (ix2 0 b) = (T b : EReal)) (h4 : ∀ e d, x2 (ix2 e d) = (W1 e d : EReal)) (h5 : ∀ d, x3 (ix2 0 d) = (B1 d : EReal))
    (h6 : ∀ e d, x4 (ix2 e d) = (W2 e d : EReal)) (h7 : ∀ d, x5 (ix2 0 d) = (B2 d : EReal)) (h8 : ∀ e d, x6 (ix2 e d) = (Wi e d : EReal)) (h9 : ∀ d, x7 (ix2 0 d) = (Bi d : EReal))
    (b : Fin 4) (n : Fin 1024) (d : Fin 64) :
    kh0 x0 x1 x2 x3 x4 x5 x6 x7 x8 x9 x10 x11 x12 x13 x14 (ix2 n (p256 b d)) = (f0 T X W1 W2 B1 B2 Wi Bi rate b n d : EReal) := by
  refine (feats_at (k0_pay126 x0 x1 x2 x3 x4 x5 x6 x7 x8 x9 x10 x11 x12 x13 x14)
    (k0_pay29 (k0_pay23 (k0_pay18 (k0_pay17 (korder x0 x1 x2 x3 x4 x5 x6 x7 x8 x9 x10 x11 x12 x13 x14 (k0_pay3 (View.ld x0 r0_0)) (k0_pay4 (View.ld x0 r0_0)))
        (k0_pay13 (View.ld x2 r0_1)) (iota .tc S128x128 32 [0] iota_S128x128_d0_w32) 32#32 k0_pay14 k0_pay15 k0_pay16) (View.ld x3 r0_2))
      (k0_pay19 (View.ld x4 r0_1)) k0_pay20 (iota .tc S128x128 32 [1] iota_S128x128_d1_w32) 32#32 k0_pay21 k0_pay22 (Scalar.extui (Scalar.cmpi .sgt 32#32 0#32)) 0#32 (View.ld x5 r0_2))
      (k0_pay25 (View.ld x6 r0_4)) k0_pay26 k0_pay27 k0_pay28)
    (k0_pay33 (k0_pay30 (View.ld x6 r0_5)) (iota .tc S12x256 32 [0] iota_S12x256_d0_w32) 3#32 k0_pay31 k0_pay32 0#32)
    (View.ld x7 r0_6) (View.ld x6 r0_5) (coords_mask _) n b d).trans ?_
  rw [embed_at]
  refine feats_real (fun e => ?_) (fun e => (ld_r0_4 _ _ _).trans (h8 _ _)) (fun e => ?_) (fun e => (ld_r0_5 _ _ _).trans (h8 _ _)) ((ld_r0_6 _ _).trans (h9 _))
  · rw [dense2_at]
    refine dense_real (fun e => ?_) (fun e => (ld_r0_1 _ _ _).trans (h6 _ _)) ((ld_r0_2 _ _).trans (h7 _))
    rw [silu_at]
    refine silu_real ?_
    rw [dense1_at]
    refine dense_real (fun e => ?_) (fun e => (ld_r0_1 _ _ _).trans (h4 _ _)) ((ld_r0_2 _ _).trans (h5 _))
    rw [korder_at]
    have ha : ∀ f : Fin 16, k0_pay2 (F := Ideal) (View.ld x0 r0_0) (ix2 0 (pk 64 rfl f b)) = ((T b * Real.exp (rate * ((f : ℕ) : ℝ)) : ℝ) : EReal) := fun f => by
      rw [angle_at, ld_r0_0, h2, hr, ← EReal.coe_mul, Ideal.exp_coe, ← EReal.coe_mul]
    unfold remb
    by_cases h : (e : ℕ) < 16
    · rw [dif_pos h, if_pos h]
      exact (congrArg Ideal.sin (ha _)).trans (Ideal.sin_coe _)
    · rw [dif_neg h, if_neg h]
      exact (congrArg Ideal.cos (ha _)).trans (Ideal.cos_coe _)
  · refine Eq.trans ?_ (h0 b n e)
    refine Eq.trans ?_ (ld_r0_3 x1 n (p12 b e))
    pointwise [k0_pay126, k0_pay24]
end

end Cert.Proof
-- ==== Proof.Dist.lean ====
/- Dist: the kernel's distances of neighbouring atoms, read at an index, and the reference's distances. -/
module
public import proofs.«01_k».proof.Proof.Masks
public import proofs.«01_k».proof.Proof.Layer
public import proofs.«01_k».proof.Proof.LayerEq
public import proofs.«01_k».proof.Proof.Loads
public import proofs.«01_k».proof.Proof.KHead
public import proofs.«01_k».proof.Proof.RefHead

@[expose] public section
noncomputable section
namespace Cert.Proof
open Idealize.ShloMosaic Cert.KernelIdeal Cert.KernelIdeal.Gen
open scoped BigOperators
set_option maxRecDepth 16384

/-- The distance of two atoms. -/
def fdist (X : Fin 4 → Fin 1024 → Fin 3 → ℝ) (b : Fin 4) (i j : Fin 1024) : ℝ :=
  Real.sqrt ((∑ c : Fin 3, (X b j c - X b i c) * (X b j c - X b i c)) + 11258999 / 1125899906842624)

theorem fdist_symm (X : Fin 4 → Fin 1024 → Fin 3 → ℝ) (b : Fin 4) (i j : Fin 1024) : fdist X b i j = fdist X b j i := by
  unfold fdist
  congr 2
  exact Finset.sum_congr rfl fun c _ => by ring

theorem fdist_self (X : Fin 4 → Fin 1024 → Fin 3 → ℝ) (b : Fin 4) (i : Fin 1024) : fdist X b i i = Real.sqrt (11258999 / 1125899906842624) := by
  simp [fdist]

theorem dist_real {x y : Fin 3 → EReal} (X : Fin 4 → Fin 1024 → Fin 3 → ℝ) (b : Fin 4) (i j : Fin 1024)
    (hx : ∀ c, x c = (X b j c : EReal)) (hy : ∀ c, y c = (X b i c : EReal)) :
    Ideal.sqrt ((∑ c, (x c - y c) * (x c - y c)) + ((11258999 / 1125899906842624 : ℝ) : EReal)) = (fdist X b i j : EReal) := by
  have h : ∀ c, x c - y c = ((X b j c - X b i c : ℝ) : EReal) := fun c => by rw [hx, hy, EReal.coe_sub]
  rw [sum_mul_real _ _ _ _ h h, ← EReal.coe_add, Ideal.sqrt_coe, if_neg]
  · rfl
  · refine not_lt.2 (add_nonneg (Finset.sum_nonneg fun c _ => mul_self_nonneg _) (by norm_num))

theorem rdist_real (X : Fin 4 → Fin 1024 → Fin 3 → ℝ) (x : FVec Ideal Cert.ReferenceIdeal.S4x1024x3 .f32) (hx : ∀ b n c, x (ix3 b n c) = (X b n c : EReal))
    (b : Fin 4) (i j : Fin 1024) : Cert.ReferenceIdeal.Read.val_main_v39 (F := Ideal) x (ix3 b i j) = (fdist X b i j : EReal) := by
  rw [rdist_at]
  exact dist_real X b i j (fun c => hx b j c) (fun c => hx b i c)

/-- A batch's value spread over its heads. -/
theorem spread_at (v : FVec Ideal S1024x4 .f32) (n : Fin 1024) (b a : Fin 4) : k0_pay71 (F := Ideal) v (ix2 n (p16 b a)) = v (ix2 n b) := by
  have key : ∀ r : Fin 16, k0_pay71 (F := Ideal) v (ix2 n r) = ∑ x : Fin 4, v (ix2 n x) * (if (x : ℕ) = (r : ℕ) / 4 then 1 else 0) := fun r => by
    pointwise [k0_pay71, k0_pay70]
    refine Finset.sum_congr rfl fun x _ => ?_
    rw [fdiv_word (x := (r : ℕ)) (by omega) (by decide) (by decide), eq_word (by omega) (by omega), mask_word]
    simp [eq_comm]
  rw [key, pk_div]
  exact sum_pick (fun x => v (ix2 n x)) _ _ fun x => Fin.ext_iff.symm

/-- The sum of a batch's three squares. -/
theorem sum_s3 (f : Fin 12 → EReal) (b : Fin 4) : ∑ x : Fin 12, f x * k0_pay35 (F := Ideal) (ix2 x b) = ∑ c : Fin 3, f (p12 b c) := by
  have h : ∀ (b' : Fin 4) (c : Fin 3), k0_pay35 (F := Ideal) (ix2 (p12 b' c) b) = if b' = b then 1 else 0 := fun b' c =>
    s3_at (fun _ => 0) (fun _ => 0) (fun _ => 0) (fun _ => 0) (fun _ => 0) (fun _ => 0) (fun _ => 0) (fun _ => 0) (fun _ => 0) (fun _ => 0) (fun _ => 0)
      (fun _ => 0) (fun _ => 0) (fun _ => 0) (fun _ => 0) b' b c
  refine sum_block 12 (n := 4) (w := 3) rfl b _ _ (fun b' c hb => ?_) (fun c => ?_)
  · rw [h, if_neg hb, mul_zero]
  · rw [h, if_pos rfl, mul_one]

theorem near1_at (u : FVec Ideal S1024x12 .f32) (n : Fin 1024) (h : (n : ℕ) < 1023) (b : Fin 4) :
    k0_pay36 (F := Ideal) u (ix2 n b)
      = Ideal.sqrt ((∑ c : Fin 3, (u (ix2 n (p12 b c)) - u (ix2 ⟨1 + n, by omega⟩ (p12 b c))) * (u (ix2 n (p12 b c)) - u (ix2 ⟨1 + n, by omega⟩ (p12 b c))))
        + ((11258999 / 1125899906842624 : ℝ) : EReal)) := by
  have key : k0_pay36 (F := Ideal) u (ix2 n b)
      = Ideal.sqrt ((∑ x : Fin 12, ((u (ix2 n x) - u (ix2 ⟨1 + n, by omega⟩ x)) * (u (ix2 n x) - u (ix2 ⟨1 + n, by omega⟩ x)))
          * k0_pay35 (F := Ideal) (ix2 x b)) + Ideal.ofBits .f32 0x322BCC77#32) := by
    pointwise [k0_pay36]
    simp only [dif_pos h]
  rw [key, ofBits_eps]
  exact congrArg (fun z => Ideal.sqrt (z + _)) (sum_s3 _ b)

theorem near2_at (u : FVec Ideal S1024x12 .f32) (n : Fin 1024) (h : (n : ℕ) < 1022) (b : Fin 4) :
    k0_pay38 (F := Ideal) u (k0_pay35 (F := Ideal)) (k0_pay37 (F := Ideal)) (ix2 n b)
      = Ideal.sqrt ((∑ c : Fin 3, (u (ix2 n (p12 b c)) - u (ix2 ⟨2 + n, by omega⟩ (p12 b c))) * (u (ix2 n (p12 b c)) - u (ix2 ⟨2 + n, by omega⟩ (p12 b c))))
        + ((11258999 / 1125899906842624 : ℝ) : EReal)) := by
  have key : ∀ (m : FVec Ideal S12x4 .f32) (z : FVec Ideal S2x12 .f32), k0_pay38 (F := Ideal) u m z (ix2 n b)
      = Ideal.sqrt ((∑ x : Fin 12, ((u (ix2 n x) - u (ix2 ⟨2 + n, by omega⟩ x)) * (u (ix2 n x) - u (ix2 ⟨2 + n, by omega⟩ x)))
          * m (ix2 x b)) + Ideal.ofBits .f32 0x322BCC77#32) := fun m z => by
    pointwise [k0_pay38]
    simp only [dif_pos h]
  rw [key, ofBits_eps]
  exact congrArg (fun z => Ideal.sqrt (z + _)) (sum_s3 _ b)

theorem above2_at (u : FVec Ideal S1024x12 .f32) (m : FVec Ideal S12x4 .f32) (z : FVec Ideal S2x12 .f32) (n : Fin 1024) (h : 2 ≤ (n : ℕ)) (b : Fin 4) :
    k0_pay39 (F := Ideal) u m z (ix2 n b) = k0_pay38 (F := Ideal) u m z (ix2 ⟨n - 2, by omega⟩ b) := by
  pointwise [k0_pay39]
  rw [dif_neg (by omega)]

theorem above1_at (v : FVec Ideal S1024x4 .f32) (n : Fin 1024) (h : 1 ≤ (n : ℕ)) (b : Fin 4) :
    k0_pay40 (F := Ideal) v (ix2 n b) = v (ix2 ⟨n - 1, by omega⟩ b) := by
  pointwise [k0_pay40]
  rw [dif_neg (by omega)]

section
variable (x0 : Vec Ideal S1x4 .f32) (x1 : Vec Ideal S1024x12 .f32) (x2 : Vec Ideal S32x32 .f32) (x3 : Vec Ideal S1x32 .f32)
  (x4 : Vec Ideal S32x32 .f32) (x5 : Vec Ideal S1x32 .f32) (x6 : Vec Ideal S35x64 .f32) (x7 : Vec Ideal S1x64 .f32)
  (x8 x9 x10 x11 : Vec Ideal S2x64x64 .f32) (x12 : Vec Ideal S2x4 .f32) (x13 : Vec Ideal S64x3 .f32) (x14 : Vec Ideal S1x3 .f32)

/-- The kernel's masks are what the layer needs. -/
theorem kmasks_real (X : Fin 4 → Fin 1024 → Fin 3 → ℝ) (h1 : ∀ b n c, x1 (ix2 n (p12 b c)) = (X b n c : EReal)) :
    (kmasks x0 x1 x2 x3 x4 x5 x6 x7 x8 x9 x10 x11 x12 x13 x14).Real (fdist X) := by
  have hu : ∀ b n c, k0_pay126 (F := Ideal) x0 x1 x2 x3 x4 x5 x6 x7 x8 x9 x10 x11 x12 x13 x14 (ix2 n (p12 b c)) = (X b n c : EReal) := fun b n c => by
    refine Eq.trans ?_ (h1 b n c)
    refine Eq.trans ?_ (ld_r0_3 x1 n (p12 b c))
    pointwise [k0_pay126, k0_pay24]
  have e72 : k0_pay72 (F := Ideal) = k0_pay71 := rfl
  have e73 : k0_pay73 (F := Ideal) = k0_pay71 := rfl
  have e74 : k0_pay74 (F := Ideal) = k0_pay71 := rfl
  exact
  { mDD := mDD_at x0 x1 x2 x3 x4 x5 x6 x7 x8 x9 x10 x11 x12 x13 x14
    eh := ehb_at x0 x1 x2 x3 x4 x5 x6 x7 x8 x9 x10 x11 x12 x13 x14
    et := ehT_at x0 x1 x2 x3 x4 x5 x6 x7 x8 x9 x10 x11 x12 x13 x14
    bm2 := bias_m2 x0 x1 x2 x3 x4 x5 x6 x7 x8 x9 x10 x11 x12 x13 x14
    bm1 := bias_m1 x0 x1 x2 x3 x4 x5 x6 x7 x8 x9 x10 x11 x12 x13 x14
    bp1 := bias_p1 x0 x1 x2 x3 x4 x5 x6 x7 x8 x9 x10 x11 x12 x13 x14
    bp2 := bias_p2 x0 x1 x2 x3 x4 x5 x6 x7 x8 x9 x10 x11 x12 x13 x14
    self := fdist_self X
    dm2 := fun n b a h => by
      have h' : (n : ℕ) % 4 = 0 ∧ 2 ≤ (n : ℕ) := h
      refine (spread_at _ n b a).trans ?_
      refine (above2_at _ _ _ n h'.2 b).trans ?_
      refine (near2_at _ _ (by simp only; omega) b).trans ?_
      refine dist_real X b n (nbn n 0) (fun c => hu _ _ _) (fun c => (hu _ _ _).trans ?_)
      congr 2
      exact Fin.ext (by simp only; omega)
    dm1 := fun n b a h => by
      have h' : ¬ (n : ℕ) % 4 = 0 := h
      refine (spread_at _ n b a).trans ?_
      rw [above1_at _ n (by omega)]
      refine (near1_at _ _ (by simp only; omega) b).trans ?_
      refine dist_real X b n (nbn n 1) (fun c => hu _ _ _) (fun c => (hu _ _ _).trans ?_)
      congr 2
      exact Fin.ext (by simp only; omega)
    dp1 := fun n b a h => by
      have h' : ¬ (n : ℕ) % 4 = 3 := h
      have hn : (n : ℕ) < 1023 := by omega
      have e : nbn n 3 = ⟨1 + n, by omega⟩ := dif_pos hn
      refine (spread_at _ n b a).trans ?_
      refine (near1_at _ _ hn b).trans ?_
      rw [fdist_symm, e]
      exact dist_real X b _ n (fun c => hu _ _ _) (fun c => hu _ _ _)
    dp2 := fun n b a h => by
      have h' : (n : ℕ) % 4 = 2 ∧ (n : ℕ) < 1022 := h
      have e : nbn n 4 = ⟨2 + n, by omega⟩ := dif_pos h'.2
      refine (spread_at _ n b a).trans ?_
      refine (near2_at _ _ h'.2 b).trans ?_
      rw [fdist_symm, e]
      exact dist_real X b _ n (fun c => hu _ _ _) (fun c => hu _ _ _) }
end

end Cert.Proof
-- ==== Proof.Last.lean ====
/- Last: the kernel's last product read at an index, and the block its body stores. -/
module
public import proofs.«01_k».proof.Proof.Layer
public import proofs.«01_k».proof.Proof.Loads
public import proofs.«01_k».proof.Proof.KHead

@[expose] public section
noncomputable section
namespace Cert.Proof
open Idealize.ShloMosaic Cert.KernelIdeal Cert.KernelIdeal.Gen
open scoped BigOperators
set_option maxRecDepth 16384

theorem tile643_at (w : Vec Ideal S64x3 .f32) (r : Fin 256) (c : Fin 12) : k0_pay119 (F := Ideal) w (ix2 r c) = w (ix2 ⟨r % 64, by omega⟩ ⟨c % 3, by omega⟩) := by
  pointwise [k0_pay119]
  split_ifs <;> exact congrArg w (congrArg₂ ix2 (Fin.ext (by show _ = (r : ℕ) % 64; simp only; omega)) (Fin.ext (by show _ = (c : ℕ) % 3; simp only; omega)))

/-- The features times the last weight, plus the last bias. -/
theorem last_at (v : FVec Ideal S1024x256 .f32) (w : Vec Ideal S64x3 .f32) (z : Vec Ideal S1x3 .f32) (n : Fin 1024) (b : Fin 4) (c : Fin 3) :
    k0_pay1 (F := Ideal) v (k0_pay119 w) k0_pay120 (iota .tc S256x12 32 [1] iota_S256x12_d1_w32) 3#32 k0_pay121 k0_pay122 z (ix2 n (p12 b c))
      = (∑ e : Fin 64, v (ix2 n (p256 b e)) * w (ix2 e c)) + z (ix2 0 c) := by
  have key : ∀ r : Fin 12, k0_pay1 (F := Ideal) v (k0_pay119 w) k0_pay120 (iota .tc S256x12 32 [1] iota_S256x12_d1_w32) 3#32 k0_pay121 k0_pay122 z (ix2 n r)
      = (∑ x : Fin 256, v (ix2 n x) * (k0_pay119 (F := Ideal) w (ix2 x r) * (if (x : ℕ) / 64 = (r : ℕ) / 3 then 1 else 0)))
        + z (ix2 0 ⟨r % 3, by omega⟩) := fun r => by
    pointwise [k0_pay1, k0_pay120, k0_pay121, k0_pay122]
    refine congrArg₂ (· + ·) (Finset.sum_congr rfl fun x _ => ?_) ?_
    · rw [fdiv_word (x := (r : ℕ)) (by omega) (by decide) (by decide), fdiv_word (x := (x : ℕ)) (by omega) (by decide) (by decide),
        eq_word (by omega) (by omega), mask_word]
      simp
    · split_ifs <;> exact congrArg z (congrArg (ix2 0) (Fin.ext (by show _ = (r : ℕ) % 3; (try simp only); omega)))
  rw [key, pk_div]
  refine congrArg₂ (· + ·) (sum_tile rfl (fun x => v (ix2 n x)) (fun x => k0_pay119 (F := Ideal) w (ix2 x (p12 b c))) _ (fun e => w (ix2 e c)) b (fun x => Iff.rfl) (fun e => ?_))
    (congrArg z (congrArg (ix2 0) (Fin.ext (pk_mod 12 rfl b c))))
  rw [tile643_at]
  exact congrArg w (congrArg₂ ix2 (Fin.ext (pk_mod 256 rfl b e)) (Fin.ext (pk_mod 12 rfl b c)))

variable (x0 : Vec Ideal S1x4 .f32) (x1 : Vec Ideal S1024x12 .f32) (x2 : Vec Ideal S32x32 .f32) (x3 : Vec Ideal S1x32 .f32)
  (x4 : Vec Ideal S32x32 .f32) (x5 : Vec Ideal S1x32 .f32) (x6 : Vec Ideal S35x64 .f32) (x7 : Vec Ideal S1x64 .f32)
  (x8 x9 x10 x11 : Vec Ideal S2x64x64 .f32) (x12 : Vec Ideal S2x4 .f32) (x13 : Vec Ideal S64x3 .f32) (x14 : Vec Ideal S1x3 .f32)

theorem out_eq : out0_15 (F := Ideal) x0 x1 x2 x3 x4 x5 x6 x7 x8 x9 x10 x11 x12 x13 x14
    = View.canon [⟨r0_3, k0_pay1 (kh2 x0 x1 x2 x3 x4 x5 x6 x7 x8 x9 x10 x11 x12 x13 x14) (k0_pay119 (View.ld x13 r0_11)) k0_pay120
      (iota .tc S256x12 32 [1] iota_S256x12_d1_w32) 3#32 k0_pay121 k0_pay122 (View.ld x14 r0_12)⟩] := rfl

theorem out_at (n : Fin 1024) (b : Fin 4) (c : Fin 3) : out0_15 (F := Ideal) x0 x1 x2 x3 x4 x5 x6 x7 x8 x9 x10 x11 x12 x13 x14 (ix2 n (p12 b c))
    = (∑ e : Fin 64, kh2 x0 x1 x2 x3 x4 x5 x6 x7 x8 x9 x10 x11 x12 x13 x14 (ix2 n (p256 b e)) * x13 (ix2 e c)) + x14 (ix2 0 c) := by
  rw [out_eq, View.canon_cons_unit_lit _ _ _ (by decide), last_at, ld_r0_12]
  exact congrArg (· + _) (Finset.sum_congr rfl fun e _ => congrArg (_ * ·) (ld_r0_11 _ _ _))

end Cert.Proof
-- ==== Proof.Equal.lean ====
/- Equal: on inputs that meet the precondition the kernel's block and the reference's result hold the same numbers. -/
module
public import proofs.«01_k».proof.Proof.Pre
public import proofs.«01_k».proof.Proof.Head
public import proofs.«01_k».proof.Proof.Dist
public import proofs.«01_k».proof.Proof.Last
public import proofs.«01_k».proof.Proof.LayerEq
public import proofs.«01_k».proof.Proof.RefHead

@[expose] public section
noncomputable section
namespace Cert.Proof
open Idealize.ShloMosaic Cert.KernelIdeal
open scoped BigOperators
set_option maxRecDepth 16384

/-- A row attends itself and the atoms bonded to it: these are the neighbours the kernel looks at. -/
theorem near_iff (i j : Fin 1024) : (bonded i j = true ∨ i = j) ↔ ∃ o, okn i o ∧ nbn i o = j := by
  have hi := i.isLt
  have hj := j.isLt
  have e : (∃ o, okn i o ∧ nbn i o = j) ↔ (okn i 0 ∧ nbn i 0 = j) ∨ (okn i 1 ∧ nbn i 1 = j) ∨ (okn i 2 ∧ nbn i 2 = j) ∨
      (okn i 3 ∧ nbn i 3 = j) ∨ (okn i 4 ∧ nbn i 4 = j) := by
    constructor
    · rintro ⟨o, h⟩
      fin_cases o
      · exact .inl h
      · exact .inr (.inl h)
      · exact .inr (.inr (.inl h))
      · exact .inr (.inr (.inr (.inl h)))
      · exact .inr (.inr (.inr (.inr h)))
    · rintro (h | h | h | h | h) <;> exact ⟨_, h⟩
  have v3 : (nbn i 3 : ℕ) = if (i : ℕ) < 1023 then 1 + (i : ℕ) else i := by
    show ((if h : (i : ℕ) < 1023 then (⟨1 + i, by omega⟩ : Fin 1024) else i : Fin 1024) : ℕ) = _
    split_ifs <;> rfl
  have v4 : (nbn i 4 : ℕ) = if (i : ℕ) < 1022 then 2 + (i : ℕ) else i := by
    show ((if h : (i : ℕ) < 1022 then (⟨2 + i, by omega⟩ : Fin 1024) else i : Fin 1024) : ℕ) = _
    split_ifs <;> rfl
  have v0 : (nbn i 0 : ℕ) = i - 2 := rfl
  have v1 : (nbn i 1 : ℕ) = i - 1 := rfl
  have v2 : (nbn i 2 : ℕ) = i := rfl
  have o0 : okn i 0 ↔ (i : ℕ) % 4 = 0 ∧ 2 ≤ (i : ℕ) := Iff.rfl
  have o1 : okn i 1 ↔ ¬ (i : ℕ) % 4 = 0 := Iff.rfl
  have o2 : okn i 2 ↔ True := Iff.rfl
  have o3 : okn i 3 ↔ ¬ (i : ℕ) % 4 = 3 := Iff.rfl
  have o4 : okn i 4 ↔ (i : ℕ) % 4 = 2 ∧ (i : ℕ) < 1022 := Iff.rfl
  rw [e]
  simp only [bonded, decide_eq_true_eq, Fin.ext_iff, v0, v1, v2, v3, v4, o0, o1, o2, o3, o4, true_and]
  constructor
  · rintro (((⟨h, h'⟩ | ⟨h, h'⟩) | (⟨h, h'⟩ | ⟨h, h'⟩)) | h)
    · exact .inr (.inr (.inr (.inl ⟨h', by rw [if_pos (by omega)]; omega⟩)))
    · exact .inr (.inr (.inr (.inr ⟨⟨h', by omega⟩, by rw [if_pos (by omega)]; omega⟩)))
    · exact .inr (.inl ⟨by omega, by omega⟩)
    · exact .inl ⟨⟨by omega, by omega⟩, by omega⟩
    · exact .inr (.inr (.inl h))
  · rintro (⟨⟨h, h'⟩, k⟩ | ⟨h, k⟩ | k | ⟨h, k⟩ | ⟨⟨h, h'⟩, k⟩)
    · exact .inl (.inr (.inr ⟨by omega, by omega⟩))
    · exact .inl (.inr (.inl ⟨by omega, by omega⟩))
    · exact .inr k
    · rw [if_pos (by omega)] at k
      exact .inl (.inl (.inl ⟨by omega, h⟩))
    · rw [if_pos h'] at k
      exact .inl (.inl (.inr ⟨by omega, h⟩))

theorem mask_near (x : IVec Cert.ReferenceIdeal.S1024x1024 1) (h : ∀ i j : Fin 1024, x (ix2 i j) = BitVec.ofBool (bonded i j)) (i j : Fin 1024) :
    Cert.ReferenceIdeal.Read.val_main_v45 (F := Ideal) x (ix2 i j) = 1#1 ↔ ∃ o, okn i o ∧ nbn i o = j := by
  rw [rmask_at, h, ← near_iff]
  by_cases e : i = j <;> cases bonded i j <;> simp [e]

variable {x0 x1 : FVec Ideal Cert.ReferenceIdeal.S4x1024x3 .f32} {x2 : FVec Ideal Cert.ReferenceIdeal.S4 .f32} {x3 : IVec Cert.ReferenceIdeal.S1024x1024 1}
  {x4 : FVec Ideal S32x32 .f32} {x5 : FVec Ideal Cert.ReferenceIdeal.S32 .f32} {x6 : FVec Ideal S32x32 .f32}
  {x7 : FVec Ideal Cert.ReferenceIdeal.S32 .f32} {x8 : FVec Ideal S35x64 .f32} {x9 : FVec Ideal Cert.ReferenceIdeal.S64 .f32}
  {x10 x11 x12 x13 : FVec Ideal S2x64x64 .f32} {x14 : FVec Ideal S2x4 .f32} {x15 : FVec Ideal S64x3 .f32} {x16 : FVec Ideal Cert.ReferenceIdeal.S3 .f32}
  {y0 : FVec Ideal S1x4 .f32} {y1 : FVec Ideal S1024x12 .f32} {y3 y5 : FVec Ideal S1x32 .f32} {y7 : FVec Ideal S1x64 .f32} {y14 : FVec Ideal S1x3 .f32}

/-- The kernel's block and the reference's result, entry by entry. -/
theorem outputs_equal (h : Cert.Pre_backbone.fn (F := Ideal) x0 x1 x2 x3 x4 x5 x6 x7 x8 x9 x10 x11 x12 x13 x14 x15 x16 = fun _ => 1#1)
    (g0 : ∀ b, y0 (ix2 0 b) = x2 (ix1 b)) (g1 : ∀ b n c, y1 (ix2 n (p12 b c)) = x0 (ix3 b n c)) (g3 : ∀ d, y3 (ix2 0 d) = x5 (ix1 d))
    (g5 : ∀ d, y5 (ix2 0 d) = x7 (ix1 d)) (g7 : ∀ d, y7 (ix2 0 d) = x9 (ix1 d)) (g14 : ∀ c, y14 (ix2 0 c) = x16 (ix1 c))
    (b : Fin 4) (n : Fin 1024) (c : Fin 3) :
    Cert.KernelIdeal.Gen.out0_15 (F := Ideal) y0 y1 x4 y3 x6 y5 x8 y7 x10 x11 x12 x13 x14 x15 y14 (ix2 n (p12 b c))
      = Cert.ReferenceIdeal.Read.val_main_v141 (F := Ideal) x0 x2 x3 x4 x5 x6 x7 x8 x9 x10 x11 x12 x13 x14 x15 x16 (ix3 b n c) := by
  obtain ⟨ha, h0, h2, h4, h5, h6, h7, h8, h9, h10, h11, h12, h13, h14⟩ := pre_splits h
  choose r0 h0 using h0
  choose r2 h2 using h2
  choose r4 h4 using h4
  choose r5 h5 using h5
  choose r6 h6 using h6
  choose r7 h7 using h7
  choose r8 h8 using h8
  choose r9 h9 using h9
  choose r10 h10 using h10
  choose r11 h11 using h11
  choose r14 h14 using h14
  have hM := kmasks_real y0 y1 x4 y3 x6 y5 x8 y7 x10 x11 x12 x13 x14 x15 y14 (fun b n c => r0 (ix3 b n c)) fun b n c => (g1 b n c).trans (h0 _)
  have hD := rdist_real (fun b n c => r0 (ix3 b n c)) x0 fun b n c => h0 _
  have hm := mask_near x3 ha
  obtain ⟨rate, hk, hr⟩ := ofBits_rate
  have kf := kf0 (fun b => r2 (ix1 b)) (fun b n c => r0 (ix3 b n c)) (fun e d => r4 (ix2 e d)) (fun e d => r6 (ix2 e d)) (fun d => r5 (ix1 d))
    (fun d => r7 (ix1 d)) (fun e d => r8 (ix2 e d)) (fun d => r9 (ix1 d)) hk y0 y1 x4 y3 x6 y5 x8 y7 x10 x11 x12 x13 x14 x15 y14
    (fun b n c => (g1 b n c).trans (h0 _)) (fun b => (g0 b).trans (h2 _)) (fun e d => h4 _) (fun d => (g3 d).trans (h5 _))
    (fun e d => h6 _) (fun d => (g5 d).trans (h7 _)) (fun e d => h8 _) (fun d => (g7 d).trans (h9 _))
  have rf := rf0 (fun b => r2 (ix1 b)) (fun b n c => r0 (ix3 b n c)) (fun e d => r4 (ix2 e d)) (fun e d => r6 (ix2 e d)) (fun d => r5 (ix1 d))
    (fun d => r7 (ix1 d)) (fun e d => r8 (ix2 e d)) (fun d => r9 (ix1 d)) hr x0 x2 x4 x5 x6 x7 x8 x9
    (fun b n c => h0 _) (fun b => h2 _) (fun e d => h4 _) (fun d => h5 _) (fun e d => h6 _) (fun d => h7 _) (fun e d => h8 _) (fun d => h9 _)
  obtain ⟨kg, rg⟩ := layer_eq _ _ hM _ _ hD hm
    (View.ld x10 Gen.r0_7) (View.ld x11 Gen.r0_7) (View.ld x12 Gen.r0_7) (View.ld x13 Gen.r0_7) (View.ld x14 Gen.r0_8)
    (Cert.ReferenceIdeal.Read.val_main_v47 (F := Ideal) x10) (Cert.ReferenceIdeal.Read.val_main_v52 (F := Ideal) x11)
    (Cert.ReferenceIdeal.Read.val_main_v57 (F := Ideal) x12) (Cert.ReferenceIdeal.Read.val_main_v89 (F := Ideal) x13)
    (Cert.ReferenceIdeal.Read.val_main_v65 (F := Ideal) x14)
    (fun e d => r10 (ix3 0 e d)) (fun e d => r11 (ix3 0 e d)) (fun a => r14 (ix2 0 a))
    (fun e d => (ld_r0_7 x10 e d).trans (h10 _)) (fun e d => (ld_r0_7 x11 e d).trans (h11 _)) (fun e d => (ld_r0_7 x12 e d).trans (rv0_at x12 e d).symm)
    (fun e d => (ld_r0_7 x13 e d).trans (ro0_at x13 e d).symm) (fun a => (ld_r0_8 x14 a).trans (h14 _))
    (fun e d => (rq0_at x10 e d).trans (h10 _)) (fun e d => (rk0_at x11 e d).trans (h11 _))
    (fun a => (rs0_at x14 a).trans (h14 _)) _ _ _ (fun n b d => kf b n d) rf
  obtain ⟨g, rg⟩ := rg (fun e d => (h12 e d).imp fun _ => (rv0_at x12 e d).trans) (fun e d => (h13 e d).imp fun _ => (ro0_at x13 e d).trans)
  obtain ⟨kg', -⟩ := layer_eq _ _ hM _ _ hD hm
    (View.ld x10 Gen.r0_9) (View.ld x11 Gen.r0_9) (View.ld x12 Gen.r0_9) (View.ld x13 Gen.r0_9) (View.ld x14 Gen.r0_10)
    (Cert.ReferenceIdeal.Read.val_main_v93 (F := Ideal) x10) (Cert.ReferenceIdeal.Read.val_main_v98 (F := Ideal) x11)
    (Cert.ReferenceIdeal.Read.val_main_v103 (F := Ideal) x12) (Cert.ReferenceIdeal.Read.val_main_v135 (F := Ideal) x13)
    (Cert.ReferenceIdeal.Read.val_main_v111 (F := Ideal) x14)
    (fun e d => r10 (ix3 1 e d)) (fun e d => r11 (ix3 1 e d)) (fun a => r14 (ix2 1 a))
    (fun e d => (ld_r0_9 x10 e d).trans (h10 _)) (fun e d => (ld_r0_9 x11 e d).trans (h11 _)) (fun e d => (ld_r0_9 x12 e d).trans (rv1_at x12 e d).symm)
    (fun e d => (ld_r0_9 x13 e d).trans (ro1_at x13 e d).symm) (fun a => (ld_r0_10 x14 a).trans (h14 _))
    (fun e d => (rq1_at x10 e d).trans (h10 _)) (fun e d => (rk1_at x11 e d).trans (h11 _))
    (fun a => (rs1_at x14 a).trans (h14 _)) _ _ g (fun n b d => (kg n b d).trans (rg b n d)) rg
  have kl : ∀ e : Fin 64, kh2 y0 y1 x4 y3 x6 y5 x8 y7 x10 x11 x12 x13 x14 x15 y14 (ix2 n (p256 b e))
      = Cert.ReferenceIdeal.Read.val_main_v137 (F := Ideal) x0 x2 x3 x4 x5 x6 x7 x8 x9 x10 x11 x12 x13 x14 (ix3 b n e) := fun e => by
    rw [ref_layer1, ref_layer0]
    exact kg' n b e
  rw [out_at, rout_last, g14]
  exact congrArg (· + x16 (ix1 c)) (Finset.sum_congr rfl fun e _ => by rw [kl])

end Cert.Proof
-- ==== Proof.Algebraic.lean ====
/- Algebraic: the claim of value. Every run of the idealized kernel and every run of the idealized reference, started from
   the same arguments that meet the precondition, end with the same result. -/
module
public import proofs.«01_k».proof.Defs
public import proofs.«01_k».proof.Proof.Gen.ReferenceIdeal.Run
public import proofs.«01_k».proof.Proof.Gen.ReferenceIdeal.Read
public import proofs.«01_k».proof.Proof.Array
public import proofs.«01_k».proof.Proof.Equal

@[expose] public section
noncomputable section
namespace Cert.Proof
open Idealize.ShloMosaic Idealize.ShloMosaic.TcCoe Idealize.SL.Sem
set_option maxRecDepth 16384

section
open Cert.KernelIdeal Cert.KernelIdeal.Gen
variable (m : (ℓ : Loc nD τ sig) → Buf (Elt Ideal) ℓ) (c : Dev nD)

/-- What the kernel's result array holds after the run. -/
def kres : Buf (Elt Ideal) ((c.tc : Thread nD τ).loc main_v9) := Pipeline.afterTail₀ cfgs (dats m) 0 (V0 m) [hostOps1] c main_v9

/-- It is the reference's result of the same arguments. -/
theorem kres_eq (h : Cert.Pre_KernelIdeal_backbone m) :
    kres m c = Cert.ReferenceIdeal.Read.val_main_v141 (F := Ideal) (m ((c : Thread nD τ).loc main_arg0)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) := by
  obtain ⟨w2, w3, w4, w5, w6⟩ := rows_eq m c
  refine (tail_eq m c).trans ?_
  rw [region_array, V_main_arg4, V_main_arg6, V_main_arg8, V_main_arg10, V_main_arg11, V_main_arg12, V_main_arg13, V_main_arg14, V_main_arg15,
    w2, w3, w4, w5, w6, v1_eq]
  funext i
  obtain ⟨b, n, d, rfl⟩ : ∃ (b : Fin 4) (n : Fin 1024) (d : Fin 3), i = ix3 b n d := ⟨i 0, i 1, i 2, funext fun a => by fin_cases a <;> rfl⟩
  refine (unpacked_at _ b n d).trans ?_
  exact outputs_equal (h c) (fun b => row_at (N := 4) _ _ b) (fun b n d => packed_at _ b n d) (fun d => row_at (N := 32) _ _ d)
    (fun d => row_at (N := 32) _ _ d) (fun d => row_at (N := 64) _ _ d) (fun d => row_at (N := 3) _ _ d) b n d

/-- Every run of the idealized kernel leaves it there. -/
theorem kernel_run (ρ : Dev nD → PrngReg) :
    θ_run defs (onTc (τ := τ) (main (F := Ideal))) ⟨m, fun _ => 0, ρ⟩ fun r => ∀ c : Dev nD, r.2.mem ((c.tc : Thread nD τ).loc main_v9) = kres m c :=
  (θ_run defs _ _).mono (fun _ h c => h.rest_eq c main_v9 (by decide)) (run_main m ρ)
end

section
open Cert.ReferenceIdeal

/-- The reference's result of equal arguments. -/
theorem same_args {x0 y0 : FVec Ideal S4x1024x3 .f32} {x2 y2 : FVec Ideal S4 .f32} {x3 y3 : IVec S1024x1024 1} {x4 y4 : FVec Ideal S32x32 .f32}
    {x5 y5 : FVec Ideal S32 .f32} {x6 y6 : FVec Ideal S32x32 .f32} {x7 y7 : FVec Ideal S32 .f32} {x8 y8 : FVec Ideal S35x64 .f32}
    {x9 y9 : FVec Ideal S64 .f32} {x10 y10 x11 y11 x12 y12 x13 y13 : FVec Ideal S2x64x64 .f32} {x14 y14 : FVec Ideal S2x4 .f32}
    {x15 y15 : FVec Ideal S64x3 .f32} {x16 y16 : FVec Ideal S3 .f32} (e0 : x0 = y0) (e2 : x2 = y2) (e3 : x3 = y3) (e4 : x4 = y4)
    (e5 : x5 = y5) (e6 : x6 = y6) (e7 : x7 = y7) (e8 : x8 = y8) (e9 : x9 = y9) (e10 : x10 = y10) (e11 : x11 = y11) (e12 : x12 = y12)
    (e13 : x13 = y13) (e14 : x14 = y14) (e15 : x15 = y15) (e16 : x16 = y16) :
    Read.val_main_v141 (F := Ideal) x0 x2 x3 x4 x5 x6 x7 x8 x9 x10 x11 x12 x13 x14 x15 x16
      = Read.val_main_v141 (F := Ideal) y0 y2 y3 y4 y5 y6 y7 y8 y9 y10 y11 y12 y13 y14 y15 y16 := by
  subst e0 e2 e3 e4 e5 e6 e7 e8 e9 e10 e11 e12 e13 e14 e15 e16
  rfl
end

theorem algebraic : Cert.algebraic_KernelIdeal_ReferenceIdeal_pre_backbone := by
  intro m g m' g' hp ha
  refine ⟨fun c => kres m c, ?_, ?_⟩
  · exact (θ_run Cert.KernelIdeal.defs _ _).mono (fun r h c => ⟨h.2 c, h.1 c⟩)
      (θ_run_and (Cert.KernelIdeal.Gen.unchanged m g) (kernel_run m g))
  · refine (θ_run Cert.ReferenceIdeal.defs _ _).mono (fun r h c => ⟨(h c).1.trans ?_, (h c).2⟩) (Cert.ReferenceIdeal.Value.run (F := Ideal) m' g')
    refine (Cert.ReferenceIdeal.Read.val_main_v141_eq (F := Ideal) _).trans ?_
    obtain ⟨a0, a1, a2, a3, a4, a5, a6, a7, a8, a9, a10, a11, a12, a13, a14, a15, a16⟩ := ha c
    exact (same_args a0 a2 a3 a4 a5 a6 a7 a8 a9 a10 a11 a12 a13 a14 a15 a16).trans (kres_eq m c hp).symm

end Cert.Proof
-- ==== Proof.lean ====
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.Pre_backbone
public import proofs.«01_k».proof.Proof.Gen.ReferenceIdeal.Read
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The reference leaves its arguments as they were, and it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants are sound: each printed word is the rounding of the constant's stated literal. -/
theorem constants : Cert.preserves_Kernel_KernelIdeal :=
  ⟨IdealRules.named_const.statement Cert.KernelIdeal.κ "mask" .f32 0xCE6E6B28#32 ⊥ rfl,
   IdealRules.named_const.statement Cert.KernelIdeal.κ "d_self" .f32 0x38D1B717#32 _ rfl⟩

theorem claim : Cert.Claim := ⟨Cert.Kernel.Gen.facts, Cert.KernelIdeal.Gen.facts, Cert.ReferenceIdeal.Gen.facts, Cert.Pre_backbone.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, constants, algebraic⟩

end Cert.Proof

end
